-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S8x4x224x224 : Shape := ⟨4, ![8, 4, 224, 224]⟩
abbrev S8x64x224x224 : Shape := ⟨4, ![8, 64, 224, 224]⟩
abbrev S_ : Shape := ⟨0, ![]⟩

class Facts : Prop where
  bcast_S_S8x4x224x224 : S_.BroadcastsInDim S8x4x224x224 (![] : Fin 0 → Fin S8x4x224x224.rank)
  reducesTo_S8x4x224x224_S_d0_1_2_3 : S8x4x224x224.ReducesTo [0, 1, 2, 3] S_
  h_S_ : 0 < S_.numel

variable [Facts]

def fn {F : FTy → Type} [FloatOps F] (main_arg0 : FVec F S8x4x224x224 .f32) (main_arg1 : FVec F S8x4x224x224 .f32) (main_arg2 : FVec F S8x64x224x224 .f32) (main_arg3 : FVec F S8x64x224x224 .f32) : IVec S_ 1 :=
  let main_cst : FVec F S_ .f32 := constant S_ .f32 0xFF800000#32
  let main_v0 : FVec F S8x4x224x224 .f32 := broadcastInDim S8x4x224x224 ![] bcast_S_S8x4x224x224 main_cst
  let main_v1 : IVec S8x4x224x224 1 := cmpf .ogt main_arg0 main_v0
  let main_cst_0 : FVec F S_ .f32 := constant S_ .f32 0x7F800000#32
  let main_v2 : FVec F S8x4x224x224 .f32 := broadcastInDim S8x4x224x224 ![] bcast_S_S8x4x224x224 main_cst_0
  let main_v3 : IVec S8x4x224x224 1 := cmpf .olt main_arg0 main_v2
  let main_v4 : IVec S8x4x224x224 1 := andi main_v1 main_v3
  let main_c : IVec S_ 1 := constantI S_ 1 1#1
  let main_v5 : IVec S_ 1 := (fun x v => Host.reduce IntOp.andi x v reducesTo_S8x4x224x224_S_d0_1_2_3 h_S_) main_v4 main_c
  let main_cst_1 : FVec F S_ .f32 := constant S_ .f32 0xFF800000#32
  let main_v6 : FVec F S8x4x224x224 .f32 := broadcastInDim S8x4x224x224 ![] bcast_S_S8x4x224x224 main_cst_1
  let main_v7 : IVec S8x4x224x224 1 := cmpf .ogt main_arg1 main_v6
  let main_cst_2 : FVec F S_ .f32 := constant S_ .f32 0x7F800000#32
  let main_v8 : FVec F S8x4x224x224 .f32 := broadcastInDim S8x4x224x224 ![] bcast_S_S8x4x224x224 main_cst_2
  let main_v9 : IVec S8x4x224x224 1 := cmpf .olt main_arg1 main_v8
  let main_v10 : IVec S8x4x224x224 1 := andi main_v7 main_v9
  let main_c_3 : IVec S_ 1 := constantI S_ 1 1#1
  let main_v11 : IVec S_ 1 := (fun x v => Host.reduce IntOp.andi x v reducesTo_S8x4x224x224_S_d0_1_2_3 h_S_) main_v10 main_c_3
  let main_v12 : IVec S_ 1 := andi main_v5 main_v11
  main_v12
-- ==== Kernel.lean ====
abbrev S8x4x224x224 : Shape := ⟨4, ![8, 4, 224, 224]⟩
abbrev S8x64x224x224 : Shape := ⟨4, ![8, 64, 224, 224]⟩
abbrev S8x4x50176 : Shape := ⟨3, ![8, 4, 50176]⟩
abbrev S8x64x50176 : Shape := ⟨3, ![8, 64, 50176]⟩
abbrev S8x50176 : Shape := ⟨2, ![8, 50176]⟩
abbrev S1x50176 : Shape := ⟨2, ![1, 50176]⟩
abbrev S8x4x3584 : Shape := ⟨3, ![8, 4, 3584]⟩
abbrev S8x3584 : Shape := ⟨2, ![8, 3584]⟩
abbrev S1x3584 : Shape := ⟨2, ![1, 3584]⟩
abbrev S8x1x3584 : Shape := ⟨3, ![8, 1, 3584]⟩
abbrev S3584 : Shape := ⟨1, ![3584]⟩
abbrev S8x64x4 : Shape := ⟨3, ![8, 64, 4]⟩
abbrev S8x4 : Shape := ⟨2, ![8, 4]⟩
abbrev S8x64x1792 : Shape := ⟨3, ![8, 64, 1792]⟩
abbrev S8x1792 : Shape := ⟨2, ![8, 1792]⟩
abbrev S8x4x1792 : Shape := ⟨3, ![8, 4, 1792]⟩
abbrev S8x1x1792 : Shape := ⟨3, ![8, 1, 1792]⟩
abbrev S8x1x4 : Shape := ⟨3, ![8, 1, 4]⟩
abbrev S_ : Shape := ⟨0, ![]⟩
abbrev S1x128 : Shape := ⟨2, ![1, 128]⟩
abbrev S1x1792 : Shape := ⟨2, ![1, 1792]⟩
abbrev S8x4x1 : Shape := ⟨3, ![8, 4, 1]⟩
abbrev S1792 : Shape := ⟨1, ![1792]⟩
abbrev S1 : Shape := ⟨1, ![1]⟩
abbrev S1x1 : Shape := ⟨2, ![1, 1]⟩

abbrev nBuf : Space → Nat
  | .hbm => 60
  | .vmem => 47
  | .smem => 0
  | _ => 0

abbrev bufTy : (tb : Table) → Fin (tcTables nBuf tb) → BufTy
  | .hbm, ⟨0, _⟩ => ⟨S8x4x224x224, .f32⟩
  | .hbm, ⟨1, _⟩ => ⟨S8x4x224x224, .f32⟩
  | .hbm, ⟨2, _⟩ => ⟨S8x64x224x224, .f32⟩
  | .hbm, ⟨3, _⟩ => ⟨S8x64x224x224, .f32⟩
  | .hbm, ⟨4, _⟩ => ⟨S8x4x50176, .f32⟩
  | .hbm, ⟨5, _⟩ => ⟨S8x4x50176, .f32⟩
  | .hbm, ⟨6, _⟩ => ⟨S8x64x50176, .f32⟩
  | .hbm, ⟨7, _⟩ => ⟨S8x64x50176, .f32⟩
  | .hbm, ⟨8, _⟩ => ⟨S8x50176, .f32⟩
  | .hbm, ⟨9, _⟩ => ⟨S8x50176, .f32⟩
  | .hbm, ⟨10, _⟩ => ⟨S8x50176, .i32⟩
  | .hbm, ⟨11, _⟩ => ⟨S8x50176, .i32⟩
  | .hbm, ⟨12, _⟩ => ⟨S1x50176, .f32⟩
  | .hbm, ⟨13, _⟩ => ⟨S1x50176, .f32⟩
  | .hbm, ⟨14, _⟩ => ⟨S8x64x4, .f32⟩
  | .hbm, ⟨15, _⟩ => ⟨S8x64x4, .f32⟩
  | .hbm, ⟨16, _⟩ => ⟨S8x4, .f32⟩
  | .hbm, ⟨17, _⟩ => ⟨S8x4, .f32⟩
  | .hbm, ⟨18, _⟩ => ⟨S8x1x4, .f32⟩
  | .hbm, ⟨19, _⟩ => ⟨S_, .f32⟩
  | .hbm, ⟨20, _⟩ => ⟨S8x1x4, .f32⟩
  | .hbm, ⟨21, _⟩ => ⟨S8x1x4, .i1⟩
  | .hbm, ⟨22, _⟩ => ⟨S8x1x4, .f32⟩
  | .hbm, ⟨23, _⟩ => ⟨S_, .f32⟩
  | .hbm, ⟨24, _⟩ => ⟨S8x1x4, .f32⟩
  | .hbm, ⟨25, _⟩ => ⟨S8x1x4, .f32⟩
  | .hbm, ⟨26, _⟩ => ⟨S8x64x4, .f32⟩
  | .hbm, ⟨27, _⟩ => ⟨S8x64x4, .f32⟩
  | .hbm, ⟨28, _⟩ => ⟨S_, .f32⟩
  | .hbm, ⟨29, _⟩ => ⟨S_, .f32⟩
  | .hbm, ⟨30, _⟩ => ⟨S8x64x4, .i1⟩
  | .hbm, ⟨31, _⟩ => ⟨S8x64x4, .f32⟩
  | .hbm, ⟨32, _⟩ => ⟨S8x64x4, .f32⟩
  | .hbm, ⟨33, _⟩ => ⟨S8x1x4, .f32⟩
  | .hbm, ⟨34, _⟩ => ⟨S_, .f32⟩
  | .hbm, ⟨35, _⟩ => ⟨S8x1x4, .f32⟩
  | .hbm, ⟨36, _⟩ => ⟨S8x1x4, .i1⟩
  | .hbm, ⟨37, _⟩ => ⟨S8x1x4, .f32⟩
  | .hbm, ⟨38, _⟩ => ⟨S_, .f32⟩
  | .hbm, ⟨39, _⟩ => ⟨S8x1x4, .f32⟩
  | .hbm, ⟨40, _⟩ => ⟨S8x1x4, .f32⟩
  | .hbm, ⟨41, _⟩ => ⟨S8x64x4, .f32⟩
  | .hbm, ⟨42, _⟩ => ⟨S8x64x4, .f32⟩
  | .hbm, ⟨43, _⟩ => ⟨S_, .f32⟩
  | .hbm, ⟨44, _⟩ => ⟨S_, .f32⟩
  | .hbm, ⟨45, _⟩ => ⟨S8x64x4, .i1⟩
  | .hbm, ⟨46, _⟩ => ⟨S8x64x4, .f32⟩
  | .hbm, ⟨47, _⟩ => ⟨S8x64x4, .f32⟩
  | .hbm, ⟨48, _⟩ => ⟨S1x128, .f32⟩
  | .hbm, ⟨49, _⟩ => ⟨S1x1, .f32⟩
  | .hbm, ⟨50, _⟩ => ⟨S_, .f32⟩
  | .hbm, ⟨51, _⟩ => ⟨S1x1, .f32⟩
  | .hbm, ⟨52, _⟩ => ⟨S_, .f32⟩
  | .hbm, ⟨53, _⟩ => ⟨S_, .f32⟩
  | .hbm, ⟨54, _⟩ => ⟨S1x1, .f32⟩
  | .hbm, ⟨55, _⟩ => ⟨S_, .f32⟩
  | .hbm, ⟨56, _⟩ => ⟨S1x1, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S8x4x3584, .f32⟩
  | .local _ .vmem, ⟨1, _⟩ => ⟨S8x4x3584, .f32⟩
  | .local _ .vmem, ⟨2, _⟩ => ⟨S8x4x3584, .f32⟩
  | .local _ .vmem, ⟨3, _⟩ => ⟨S8x4x3584, .f32⟩
  | .local _ .vmem, ⟨4, _⟩ => ⟨S8x3584, .f32⟩
  | .local _ .vmem, ⟨5, _⟩ => ⟨S8x3584, .f32⟩
  | .local _ .vmem, ⟨6, _⟩ => ⟨S8x3584, .f32⟩
  | .local _ .vmem, ⟨7, _⟩ => ⟨S8x3584, .f32⟩
  | .local _ .vmem, ⟨8, _⟩ => ⟨S8x3584, .i32⟩
  | .local _ .vmem, ⟨9, _⟩ => ⟨S8x3584, .i32⟩
  | .local _ .vmem, ⟨10, _⟩ => ⟨S8x3584, .i32⟩
  | .local _ .vmem, ⟨11, _⟩ => ⟨S8x3584, .i32⟩
  | .local _ .vmem, ⟨12, _⟩ => ⟨S1x3584, .f32⟩
  | .local _ .vmem, ⟨13, _⟩ => ⟨S1x3584, .f32⟩
  | .local _ .vmem, ⟨14, _⟩ => ⟨S1x3584, .f32⟩
  | .local _ .vmem, ⟨15, _⟩ => ⟨S1x3584, .f32⟩
  | .local _ .vmem, ⟨16, _⟩ => ⟨S8x64x1792, .f32⟩
  | .local _ .vmem, ⟨17, _⟩ => ⟨S8x64x1792, .f32⟩
  | .local _ .vmem, ⟨18, _⟩ => ⟨S8x64x1792, .f32⟩
  | .local _ .vmem, ⟨19, _⟩ => ⟨S8x64x1792, .f32⟩
  | .local _ .vmem, ⟨20, _⟩ => ⟨S8x1792, .f32⟩
  | .local _ .vmem, ⟨21, _⟩ => ⟨S8x1792, .f32⟩
  | .local _ .vmem, ⟨22, _⟩ => ⟨S8x1792, .f32⟩
  | .local _ .vmem, ⟨23, _⟩ => ⟨S8x1792, .f32⟩
  | .local _ .vmem, ⟨24, _⟩ => ⟨S8x1792, .i32⟩
  | .local _ .vmem, ⟨25, _⟩ => ⟨S8x1792, .i32⟩
  | .local _ .vmem, ⟨26, _⟩ => ⟨S8x1792, .i32⟩
  | .local _ .vmem, ⟨27, _⟩ => ⟨S8x1792, .i32⟩
  | .local _ .vmem, ⟨28, _⟩ => ⟨S8x64x4, .f32⟩
  | .local _ .vmem, ⟨29, _⟩ => ⟨S8x64x4, .f32⟩
  | .local _ .vmem, ⟨30, _⟩ => ⟨S8x4, .f32⟩
  | .local _ .vmem, ⟨31, _⟩ => ⟨S8x4, .f32⟩
  | .local _ .vmem, ⟨32, _⟩ => ⟨S8x64x1792, .f32⟩
  | .local _ .vmem, ⟨33, _⟩ => ⟨S8x64x1792, .f32⟩
  | .local _ .vmem, ⟨34, _⟩ => ⟨S8x64x1792, .f32⟩
  | .local _ .vmem, ⟨35, _⟩ => ⟨S8x64x1792, .f32⟩
  | .local _ .vmem, ⟨36, _⟩ => ⟨S8x1792, .i32⟩
  | .local _ .vmem, ⟨37, _⟩ => ⟨S8x1792, .i32⟩
  | .local _ .vmem, ⟨38, _⟩ => ⟨S8x1792, .i32⟩
  | .local _ .vmem, ⟨39, _⟩ => ⟨S8x1792, .i32⟩
  | .local _ .vmem, ⟨40, _⟩ => ⟨S1x1792, .f32⟩
  | .local _ .vmem, ⟨41, _⟩ => ⟨S1x1792, .f32⟩
  | .local _ .vmem, ⟨42, _⟩ => ⟨S1x1792, .f32⟩
  | .local _ .vmem, ⟨43, _⟩ => ⟨S1x1792, .f32⟩
  | .local _ .vmem, ⟨44, _⟩ => ⟨S8x64x4, .f32⟩
  | .local _ .vmem, ⟨45, _⟩ => ⟨S8x64x4, .f32⟩
  | .local _ .vmem, ⟨46, _⟩ => ⟨S1x128, .f32⟩
  | _, _ => ⟨S8x4x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg8_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem7_0 : DmaSem sig := 29
abbrev cc1_sem8_0 : DmaSem sig := 30
abbrev cc1_sem9_0 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem7_0 : DmaSem sig := 45
abbrev cc2_sem8_0 : DmaSem sig := 46

abbrev nD : Nat := 1
abbrev τ : Topo := Topo.v7x

variable {F : FTy → Type} [FloatOps F]

abbrev grid0 : Pipeline.Grid := ⟨1, ![14], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x4x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x3584 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x3584 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3584 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![28], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x64x1792 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x64x1792 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1792 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x1792 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x1792 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x1792 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S8x64x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x64x4 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x4 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![28], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8x64x1792 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x64x1792 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x1792 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x1792 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1792 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1792 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S8x64x4 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S8x64x4 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]
-- ==== ReferenceIdeal.lean ====
abbrev S8x4x224x224 : Shape := ⟨4, ![8, 4, 224, 224]⟩
abbrev S8x64x224x224 : Shape := ⟨4, ![8, 64, 224, 224]⟩
abbrev S_ : Shape := ⟨0, ![]⟩
abbrev S8x224x224 : Shape := ⟨3, ![8, 224, 224]⟩
abbrev S8x1x224x224 : Shape := ⟨4, ![8, 1, 224, 224]⟩
abbrev S8x64x50176 : Shape := ⟨3, ![8, 64, 50176]⟩
abbrev S8x50176 : Shape := ⟨2, ![8, 50176]⟩
abbrev S8x1x50176 : Shape := ⟨3, ![8, 1, 50176]⟩
abbrev S8x50176x1 : Shape := ⟨3, ![8, 50176, 1]⟩
abbrev S1x1x4 : Shape := ⟨3, ![1, 1, 4]⟩
abbrev S8x50176x4 : Shape := ⟨3, ![8, 50176, 4]⟩
abbrev S8x64x4 : Shape := ⟨3, ![8, 64, 4]⟩
abbrev S8x4 : Shape := ⟨2, ![8, 4]⟩
abbrev S8x1x4 : Shape := ⟨3, ![8, 1, 4]⟩
abbrev S8x1x224x224x1 : Shape := ⟨5, ![8, 1, 224, 224, 1]⟩
abbrev S1x8x224x224 : Shape := ⟨4, ![1, 8, 224, 224]⟩
abbrev S8x8x224x224 : Shape := ⟨4, ![8, 8, 224, 224]⟩

abbrev nBuf : Space → Nat
  | .hbm => 225
  | .vmem => 0
  | .smem => 0
  | _ => 0

abbrev hbmTy0_0 (i : Nat) : BufTy := match i % 128 with
  | 0 => ⟨S8x4x224x224, .f32⟩
  | 1 => ⟨S8x4x224x224, .f32⟩
  | 2 => ⟨S8x64x224x224, .f32⟩
  | 3 => ⟨S8x64x224x224, .f32⟩
  | 4 => ⟨S8x4x224x224, .i32⟩
  | 5 => ⟨S_, .f32⟩
  | 6 => ⟨S8x224x224, .f32⟩
  | 7 => ⟨S8x1x224x224, .f32⟩
  | 8 => ⟨S8x4x224x224, .f32⟩
  | 9 => ⟨S8x4x224x224, .i1⟩
  | 10 => ⟨S_, .i32⟩
  | 11 => ⟨S_, .i32⟩
  | 12 => ⟨S8x4x224x224, .i32⟩
  | 13 => ⟨S8x4x224x224, .i32⟩
  | 14 => ⟨S_, .i32⟩
  | 15 => ⟨S8x224x224, .i32⟩
  | 16 => ⟨S8x4x224x224, .i32⟩
  | 17 => ⟨S_, .f32⟩
  | 18 => ⟨S8x224x224, .f32⟩
  | 19 => ⟨S8x1x224x224, .f32⟩
  | 20 => ⟨S8x4x224x224, .f32⟩
  | 21 => ⟨S8x4x224x224, .i1⟩
  | 22 => ⟨S_, .i32⟩
  | 23 => ⟨S_, .i32⟩
  | 24 => ⟨S8x4x224x224, .i32⟩
  | 25 => ⟨S8x4x224x224, .i32⟩
  | 26 => ⟨S_, .i32⟩
  | 27 => ⟨S8x224x224, .i32⟩
  | 28 => ⟨S_, .f32⟩
  | 29 => ⟨S8x224x224, .f32⟩
  | 30 => ⟨S_, .f32⟩
  | 31 => ⟨S8x224x224, .f32⟩
  | 32 => ⟨S8x224x224, .f32⟩
  | 33 => ⟨S8x1x224x224, .f32⟩
  | 34 => ⟨S8x4x224x224, .f32⟩
  | 35 => ⟨S8x4x224x224, .f32⟩
  | 36 => ⟨S8x4x224x224, .f32⟩
  | 37 => ⟨S_, .f32⟩
  | 38 => ⟨S8x224x224, .f32⟩
  | 39 => ⟨S8x1x224x224, .f32⟩
  | 40 => ⟨S8x4x224x224, .f32⟩
  | 41 => ⟨S8x4x224x224, .f32⟩
  | 42 => ⟨S_, .f32⟩
  | 43 => ⟨S8x224x224, .f32⟩
  | 44 => ⟨S_, .f32⟩
  | 45 => ⟨S8x224x224, .f32⟩
  | 46 => ⟨S8x224x224, .f32⟩
  | 47 => ⟨S8x1x224x224, .f32⟩
  | 48 => ⟨S8x4x224x224, .f32⟩
  | 49 => ⟨S8x4x224x224, .f32⟩
  | 50 => ⟨S8x4x224x224, .f32⟩
  | 51 => ⟨S_, .f32⟩
  | 52 => ⟨S8x224x224, .f32⟩
  | 53 => ⟨S8x1x224x224, .f32⟩
  | 54 => ⟨S8x4x224x224, .f32⟩
  | 55 => ⟨S8x4x224x224, .f32⟩
  | 56 => ⟨S_, .f32⟩
  | 57 => ⟨S8x224x224, .f32⟩
  | 58 => ⟨S_, .f32⟩
  | 59 => ⟨S8x224x224, .f32⟩
  | 60 => ⟨S8x224x224, .i1⟩
  | 61 => ⟨S8x224x224, .i32⟩
  | 62 => ⟨S8x64x50176, .f32⟩
  | 63 => ⟨S8x50176, .f32⟩
  | 64 => ⟨S8x50176, .i32⟩
  | 65 => ⟨S8x1x50176, .f32⟩
  | 66 => ⟨S8x64x50176, .f32⟩
  | 67 => ⟨S8x64x50176, .f32⟩
  | 68 => ⟨S8x50176x1, .i32⟩
  | 69 => ⟨S1x1x4, .i32⟩
  | 70 => ⟨S8x50176x4, .i32⟩
  | 71 => ⟨S8x50176x4, .i32⟩
  | 72 => ⟨S8x50176x4, .i1⟩
  | 73 => ⟨S8x50176x4, .f32⟩
  | 74 => ⟨S8x64x4, .f32⟩
  | 75 => ⟨S_, .f32⟩
  | 76 => ⟨S8x4, .f32⟩
  | 77 => ⟨S8x1x4, .f32⟩
  | 78 => ⟨S8x64x4, .f32⟩
  | 79 => ⟨S8x64x4, .f32⟩
  | 80 => ⟨S8x1x50176, .i32⟩
  | 81 => ⟨S_, .i32⟩
  | 82 => ⟨S8x1x50176, .i32⟩
  | 83 => ⟨S8x1x50176, .i1⟩
  | 84 => ⟨S_, .i32⟩
  | 85 => ⟨S8x1x50176, .i32⟩
  | 86 => ⟨S8x1x50176, .i32⟩
  | 87 => ⟨S8x1x50176, .i32⟩
  | 88 => ⟨S8x50176x1, .i32⟩
  | 89 => ⟨S8x64x50176, .f32⟩
  | 90 => ⟨S8x64x50176, .f32⟩
  | 91 => ⟨S_, .f32⟩
  | 92 => ⟨S8x50176, .f32⟩
  | 93 => ⟨S8x64x50176, .f32⟩
  | 94 => ⟨S_, .f32⟩
  | 95 => ⟨S8x50176, .f32⟩
  | 96 => ⟨S8x50176, .f32⟩
  | 97 => ⟨S8x64x50176, .f32⟩
  | 98 => ⟨S_, .f32⟩
  | 99 => ⟨S8x50176, .f32⟩
  | 100 => ⟨S8x50176, .f32⟩
  | 101 => ⟨S8x50176, .f32⟩
  | 102 => ⟨S_, .f32⟩
  | 103 => ⟨S8x50176, .f32⟩
  | 104 => ⟨S8x50176, .f32⟩
  | 105 => ⟨S8x50176, .f32⟩
  | 106 => ⟨S8x1x224x224, .f32⟩
  | 107 => ⟨S8x64x50176, .f32⟩
  | 108 => ⟨S8x50176, .f32⟩
  | 109 => ⟨S8x50176, .i32⟩
  | 110 => ⟨S8x1x50176, .f32⟩
  | 111 => ⟨S8x64x50176, .f32⟩
  | 112 => ⟨S8x64x50176, .f32⟩
  | 113 => ⟨S8x50176x1, .i32⟩
  | 114 => ⟨S1x1x4, .i32⟩
  | 115 => ⟨S8x50176x4, .i32⟩
  | 116 => ⟨S8x50176x4, .i32⟩
  | 117 => ⟨S8x50176x4, .i1⟩
  | 118 => ⟨S8x50176x4, .f32⟩
  | 119 => ⟨S8x64x4, .f32⟩
  | 120 => ⟨S_, .f32⟩
  | 121 => ⟨S8x4, .f32⟩
  | 122 => ⟨S8x1x4, .f32⟩
  | 123 => ⟨S8x64x4, .f32⟩
  | 124 => ⟨S8x64x4, .f32⟩
  | 125 => ⟨S8x1x50176, .i32⟩
  | 126 => ⟨S_, .i32⟩
  | 127 => ⟨S8x1x50176, .i32⟩
  | _ => ⟨S8x4x224x224, .f32⟩

abbrev hbmTy0_1 (i : Nat) : BufTy := match i % 128 with
  | 0 => ⟨S8x1x50176, .i1⟩
  | 1 => ⟨S_, .i32⟩
  | 2 => ⟨S8x1x50176, .i32⟩
  | 3 => ⟨S8x1x50176, .i32⟩
  | 4 => ⟨S8x1x50176, .i32⟩
  | 5 => ⟨S8x50176x1, .i32⟩
  | 6 => ⟨S8x64x50176, .f32⟩
  | 7 => ⟨S8x64x50176, .f32⟩
  | 8 => ⟨S_, .f32⟩
  | 9 => ⟨S8x50176, .f32⟩
  | 10 => ⟨S8x64x50176, .f32⟩
  | 11 => ⟨S_, .f32⟩
  | 12 => ⟨S8x50176, .f32⟩
  | 13 => ⟨S8x50176, .f32⟩
  | 14 => ⟨S8x64x50176, .f32⟩
  | 15 => ⟨S_, .f32⟩
  | 16 => ⟨S8x50176, .f32⟩
  | 17 => ⟨S8x50176, .f32⟩
  | 18 => ⟨S8x50176, .f32⟩
  | 19 => ⟨S_, .f32⟩
  | 20 => ⟨S8x50176, .f32⟩
  | 21 => ⟨S8x50176, .f32⟩
  | 22 => ⟨S8x50176, .f32⟩
  | 23 => ⟨S8x1x224x224, .f32⟩
  | 24 => ⟨S_, .f32⟩
  | 25 => ⟨S8x224x224, .f32⟩
  | 26 => ⟨S_, .f32⟩
  | 27 => ⟨S8x224x224, .f32⟩
  | 28 => ⟨S8x224x224, .f32⟩
  | 29 => ⟨S8x1x224x224, .f32⟩
  | 30 => ⟨S8x4x224x224, .f32⟩
  | 31 => ⟨S8x4x224x224, .f32⟩
  | 32 => ⟨S8x4x224x224, .f32⟩
  | 33 => ⟨S_, .f32⟩
  | 34 => ⟨S8x224x224, .f32⟩
  | 35 => ⟨S8x1x224x224, .f32⟩
  | 36 => ⟨S8x1x224x224, .f32⟩
  | 37 => ⟨S8x4x224x224, .f32⟩
  | 38 => ⟨S8x4x224x224, .f32⟩
  | 39 => ⟨S_, .f32⟩
  | 40 => ⟨S8x224x224, .f32⟩
  | 41 => ⟨S_, .f32⟩
  | 42 => ⟨S8x224x224, .f32⟩
  | 43 => ⟨S8x224x224, .f32⟩
  | 44 => ⟨S8x1x224x224, .f32⟩
  | 45 => ⟨S8x4x224x224, .f32⟩
  | 46 => ⟨S8x4x224x224, .f32⟩
  | 47 => ⟨S8x4x224x224, .f32⟩
  | 48 => ⟨S_, .f32⟩
  | 49 => ⟨S8x224x224, .f32⟩
  | 50 => ⟨S8x1x224x224, .f32⟩
  | 51 => ⟨S8x1x224x224, .f32⟩
  | 52 => ⟨S8x4x224x224, .f32⟩
  | 53 => ⟨S8x4x224x224, .f32⟩
  | 54 => ⟨S8x1x224x224, .i32⟩
  | 55 => ⟨S_, .i32⟩
  | 56 => ⟨S8x1x224x224, .i32⟩
  | 57 => ⟨S8x1x224x224, .i1⟩
  | 58 => ⟨S_, .i32⟩
  | 59 => ⟨S8x1x224x224, .i32⟩
  | 60 => ⟨S8x1x224x224, .i32⟩
  | 61 => ⟨S8x1x224x224, .i32⟩
  | 62 => ⟨S8x1x224x224x1, .i32⟩
  | 63 => ⟨S8x1x224x224, .f32⟩
  | 64 => ⟨S8x224x224, .f32⟩
  | 65 => ⟨S8x224x224, .f32⟩
  | 66 => ⟨S8x1x224x224, .i32⟩
  | 67 => ⟨S_, .i32⟩
  | 68 => ⟨S8x1x224x224, .i32⟩
  | 69 => ⟨S8x1x224x224, .i1⟩
  | 70 => ⟨S_, .i32⟩
  | 71 => ⟨S8x1x224x224, .i32⟩
  | 72 => ⟨S8x1x224x224, .i32⟩
  | 73 => ⟨S8x1x224x224, .i32⟩
  | 74 => ⟨S8x1x224x224x1, .i32⟩
  | 75 => ⟨S8x1x224x224, .f32⟩
  | 76 => ⟨S8x224x224, .f32⟩
  | 77 => ⟨S8x224x224, .f32⟩
  | 78 => ⟨S1x8x224x224, .f32⟩
  | 79 => ⟨S8x8x224x224, .f32⟩
  | 80 => ⟨S8x8x224x224, .f32⟩
  | 81 => ⟨S8x8x224x224, .f32⟩
  | 82 => ⟨S_, .f32⟩
  | 83 => ⟨S_, .f32⟩
  | 84 => ⟨S_, .f32⟩
  | 85 => ⟨S_, .f32⟩
  | 86 => ⟨S_, .f32⟩
  | 87 => ⟨S1x8x224x224, .f32⟩
  | 88 => ⟨S8x8x224x224, .f32⟩
  | 89 => ⟨S8x8x224x224, .f32⟩
  | 90 => ⟨S8x8x224x224, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | _ => ⟨S8x4x224x224, .f32⟩

abbrev hbmTy (i : Nat) : BufTy := match i / 128 with
  | 0 => hbmTy0_0 i
  | 1 => hbmTy0_1 i
  | _ => ⟨S8x4x224x224, .f32⟩

abbrev bufTy : (tb : Table) → Fin (tcTables nBuf tb) → BufTy
  | .hbm, ⟨i, _⟩ => hbmTy i
  | _, _ => ⟨S8x4x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v46 : Ref sig .tc := ⟨.hbm, 73, rfl⟩
abbrev main_v47 : Ref sig .tc := ⟨.hbm, 74, rfl⟩
abbrev main_cst_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call4_c : Ref sig .tc := ⟨.hbm, 81, rfl⟩
abbrev main_call4_v0 : Ref sig .tc := ⟨.hbm, 82, rfl⟩
abbrev main_call4_v1 : Ref sig .tc := ⟨.hbm, 83, rfl⟩
abbrev main_call4_c_0 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_v53 : Ref sig .tc := ⟨.hbm, 89, rfl⟩
abbrev main_v54 : Ref sig .tc := ⟨.hbm, 90, rfl⟩
abbrev main_cst_13 : Ref sig .tc := ⟨.hbm, 91, rfl⟩
abbrev main_v55 : Ref sig .tc := ⟨.hbm, 92, rfl⟩
abbrev main_v56 : Ref sig .tc := ⟨.hbm, 93, rfl⟩
abbrev main_cst_14 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_15 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_16 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_v73 : Ref sig .tc := ⟨.hbm, 118, rfl⟩
abbrev main_v74 : Ref sig .tc := ⟨.hbm, 119, rfl⟩
abbrev main_cst_17 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_call6_c : Ref sig .tc := ⟨.hbm, 126, rfl⟩
abbrev main_call6_v0 : Ref sig .tc := ⟨.hbm, 127, rfl⟩
abbrev main_call6_v1 : Ref sig .tc := ⟨.hbm, 128, rfl⟩
abbrev main_call6_c_0 : Ref sig .tc := ⟨.hbm, 129, rfl⟩
abbrev main_call6_v2 : Ref sig .tc := ⟨.hbm, 130, rfl⟩
abbrev main_call6_v3 : Ref sig .tc := ⟨.hbm, 131, rfl⟩
abbrev main_call6_v4 : Ref sig .tc := ⟨.hbm, 132, rfl⟩
abbrev main_call6_v5 : Ref sig .tc := ⟨.hbm, 133, rfl⟩
abbrev main_v80 : Ref sig .tc := ⟨.hbm, 134, rfl⟩
abbrev main_v81 : Ref sig .tc := ⟨.hbm, 135, rfl⟩
abbrev main_cst_18 : Ref sig .tc := ⟨.hbm, 136, rfl⟩
abbrev main_v82 : Ref sig .tc := ⟨.hbm, 137, rfl⟩
abbrev main_v83 : Ref sig .tc := ⟨.hbm, 138, rfl⟩
abbrev main_cst_19 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_20 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_21 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_call7_cst : Ref sig .tc := ⟨.hbm, 152, rfl⟩
abbrev main_call7_v0 : Ref sig .tc := ⟨.hbm, 153, rfl⟩
abbrev main_call7_cst_0 : Ref sig .tc := ⟨.hbm, 154, rfl⟩
abbrev main_call7_v1 : Ref sig .tc := ⟨.hbm, 155, rfl⟩
abbrev main_call7_v2 : Ref sig .tc := ⟨.hbm, 156, rfl⟩
abbrev main_call7_v3 : Ref sig .tc := ⟨.hbm, 157, rfl⟩
abbrev main_call7_v4 : Ref sig .tc := ⟨.hbm, 158, rfl⟩
abbrev main_call7_v5 : Ref sig .tc := ⟨.hbm, 159, rfl⟩
abbrev main_call7_v6 : Ref sig .tc := ⟨.hbm, 160, rfl⟩
abbrev main_call7_cst_1 : Ref sig .tc := ⟨.hbm, 161, rfl⟩
abbrev main_call7_v7 : Ref sig .tc := ⟨.hbm, 162, rfl⟩
abbrev main_call7_v8 : Ref sig .tc := ⟨.hbm, 163, rfl⟩
abbrev main_call7_v9 : Ref sig .tc := ⟨.hbm, 164, rfl⟩
abbrev main_call7_v10 : Ref sig .tc := ⟨.hbm, 165, rfl⟩
abbrev main_v94 : Ref sig .tc := ⟨.hbm, 166, rfl⟩
abbrev main_call8_cst : Ref sig .tc := ⟨.hbm, 167, rfl⟩
abbrev main_call8_v0 : Ref sig .tc := ⟨.hbm, 168, rfl⟩
abbrev main_call8_cst_0 : Ref sig .tc := ⟨.hbm, 169, rfl⟩
abbrev main_call8_v1 : Ref sig .tc := ⟨.hbm, 170, rfl⟩
abbrev main_call8_v2 : Ref sig .tc := ⟨.hbm, 171, rfl⟩
abbrev main_call8_v3 : Ref sig .tc := ⟨.hbm, 172, rfl⟩
abbrev main_call8_v4 : Ref sig .tc := ⟨.hbm, 173, rfl⟩
abbrev main_call8_v5 : Ref sig .tc := ⟨.hbm, 174, rfl⟩
abbrev main_call8_v6 : Ref sig .tc := ⟨.hbm, 175, rfl⟩
abbrev main_call8_cst_1 : Ref sig .tc := ⟨.hbm, 176, rfl⟩
abbrev main_call8_v7 : Ref sig .tc := ⟨.hbm, 177, rfl⟩
abbrev main_call8_v8 : Ref sig .tc := ⟨.hbm, 178, rfl⟩
abbrev main_call8_v9 : Ref sig .tc := ⟨.hbm, 179, rfl⟩
abbrev main_call8_v10 : Ref sig .tc := ⟨.hbm, 180, rfl⟩
abbrev main_v95 : Ref sig .tc := ⟨.hbm, 181, rfl⟩
abbrev main_v96 : Ref sig .tc := ⟨.hbm, 182, rfl⟩
abbrev main_call9_c : Ref sig .tc := ⟨.hbm, 183, rfl⟩
abbrev main_call9_v0 : Ref sig .tc := ⟨.hbm, 184, rfl⟩
abbrev main_call9_v1 : Ref sig .tc := ⟨.hbm, 185, rfl⟩
abbrev main_call9_c_0 : Ref sig .tc := ⟨.hbm, 186, rfl⟩
abbrev main_call9_v2 : Ref sig .tc := ⟨.hbm, 187, rfl⟩
abbrev main_call9_v3 : Ref sig .tc := ⟨.hbm, 188, rfl⟩
abbrev main_call9_v4 : Ref sig .tc := ⟨.hbm, 189, rfl⟩
abbrev main_call9_v5 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_call10_c : Ref sig .tc := ⟨.hbm, 195, rfl⟩
abbrev main_call10_v0 : Ref sig .tc := ⟨.hbm, 196, rfl⟩
abbrev main_call10_v1 : Ref sig .tc := ⟨.hbm, 197, rfl⟩
abbrev main_call10_c_0 : Ref sig .tc := ⟨.hbm, 198, rfl⟩
abbrev main_call10_v2 : Ref sig .tc := ⟨.hbm, 199, rfl⟩
abbrev main_call10_v3 : Ref sig .tc := ⟨.hbm, 200, rfl⟩
abbrev main_call10_v4 : Ref sig .tc := ⟨.hbm, 201, rfl⟩
abbrev main_call10_v5 : Ref sig .tc := ⟨.hbm, 202, rfl⟩
abbrev main_v101 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_cst_22 : Ref sig .tc := ⟨.hbm, 210, rfl⟩
abbrev main_v108 : Ref sig .tc := ⟨.hbm, 211, rfl⟩
abbrev main_cst_23 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_cst_24 : Ref sig .tc := ⟨.hbm, 219, rfl⟩
abbrev main_v115 : Ref sig .tc := ⟨.hbm, 220, rfl⟩
abbrev main_cst_25 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩

abbrev nD : Nat := 1
abbrev τ : Topo := Topo.v7x

variable {F : FTy → Type} [FloatOps F]
-- ==== Proof.KernelRun.lean ====
/-
  The kernel's run, with the result: every execution ends with the result array at the contents that the fold through the
  three regions and the host operations between them gives (`W9`), and with the argument arrays as launched.
-/
module

public import proofs.«01_k».proof.Proof.Gen.KernelIdeal.Frame

@[expose] public section

noncomputable section

namespace Cert.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with this one
set_option backward.isDefEq.respectTransparency.types false in
/-- Every execution of the kernel ends with the result array at `W9` and the arguments as launched. -/
theorem run : θ_run defs (onTc (τ := τ) (main (F := F))) ⟨m, fun _ => 0, ρ⟩ (fun r => ∀ c : Dev nD,
      r.2.mem ((c.tc : Thread nD τ).loc main_v35) = W9 m ρ c (Proc.devRef .tc main_v35)
      ∧      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c =>
      ⟨h c _ (mem_uc main_v35 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.KernelValue

end
-- ==== Proof.Pixel.lean ====
/-
  What the routing computes of one pixel: from its four logits, the winning class, the confidence of the softmax, the
  cross entropy against a class, and the class taken of two heads. Extended reals; no program appears here.
-/
module

public import Idealize.ShloMosaic.PureOps
public import Idealize.ShloMosaic.PureOps.Ideal
public import Idealize.ShloMosaic.PureOps.Ideal.Laws

@[expose] public section

noncomputable section

namespace Cert.Pixel

open Idealize.ShloMosaic

/-- The largest of the four logits. -/
def best (p : Fin 4 → EReal) : EReal := max (max (max (p 0) (p 1)) (p 2)) (p 3)

/-- The first class whose logit is the largest, as a 32-bit word. -/
def hard (p : Fin 4 → EReal) : BitVec 32 :=
  if max (max (p 0) (p 1)) (p 2) < p 3 then 3#32
  else if max (p 0) (p 1) < p 2 then 2#32
  else if p 0 < p 1 then 1#32 else 0#32

/-- The softmax's denominator: the sum of the exponentials of the logits less the largest. -/
def den (p : Fin 4 → EReal) : EReal :=
  Ideal.exp (p 0 - best p) + Ideal.exp (p 1 - best p) + Ideal.exp (p 2 - best p) + Ideal.exp (p 3 - best p)

/-- The confidence: the largest softmax probability. -/
def conf (p : Fin 4 → EReal) : EReal := Ideal.div 1 (den p)

/-- The logarithm of the sum of the exponentials of the logits. -/
def lse (p : Fin 4 → EReal) : EReal := best p + Ideal.log (den p)

/-- The logit of class `k`. -/
def pick (p : Fin 4 → EReal) (k : BitVec 32) : EReal :=
  if k = 3#32 then p 3 else if k = 2#32 then p 2 else if k = 1#32 then p 1 else p 0

/-- The cross entropy against class `k`. -/
def ce (p : Fin 4 → EReal) (k : BitVec 32) : EReal := lse p - pick p k

/-- The class taken of two heads: the more confident head's, the first one's on a tie. -/
def pseudo (p q : Fin 4 → EReal) : BitVec 32 := if conf q ≤ conf p then hard p else hard q

/-- One where the class is `k`, zero elsewhere. -/
def ind (h k : BitVec 32) : EReal := if h = k then 1 else 0

/-- The sum of a feature, weighted by the confidences, over the pixels of class `k`. -/
def wsum {N : ℕ} (f p : Fin N → EReal) (h : Fin N → BitVec 32) (k : BitVec 32) : EReal := ∑ n, f n * (ind (h n) k * p n)

/-- The number of pixels of class `k`. -/
def count {N : ℕ} (h : Fin N → BitVec 32) (k : BitVec 32) : EReal := ∑ n, ind (h n) k

/-- The cosine of a pixel's features `f` and its class's centre, the centre picked from the classes' centres `g`; the
    product of the norms is bounded below. -/
def cosOf {D : ℕ} (f : Fin D → EReal) (g : Fin D → Fin 4 → EReal) (h : BitVec 32) : EReal :=
  Ideal.div (∑ k : Fin 4, if h = BitVec.ofNat 32 k then ∑ d, g d k * f d else 0)
    (max (Ideal.sqrt (∑ d, f d * f d) * Ideal.sqrt (∑ k : Fin 4, if h = BitVec.ofNat 32 k then ∑ d, g d k * g d k else 0))
      (Ideal.ofBits .f32 841731191#32))

/-- Every logit is a real number. -/
def Finite (p : Fin 4 → EReal) : Prop := ∀ k, p k ≠ ⊥ ∧ p k ≠ ⊤

end Cert.Pixel

end
-- ==== Proof.Spec.lean ====
/-
  The loss as the kernel computes it, of logits and features given pixel by pixel: the pixels of an image in one row, `p` and
  `q` the two heads' logits by image, pixel and class, `f` and `g` the two heads' features by image, feature and pixel.
  Extended reals; no program appears here.
-/
module

public import proofs.«01_k».proof.Proof.Pixel

@[expose] public section

noncomputable section

namespace Cert.Pixel

open Idealize.ShloMosaic

variable {B N D : ℕ}

/-- A class's centre in an image, zero if the class has no pixel. -/
def centre (f : Fin B → Fin D → Fin N → EReal) (p : Fin B → Fin N → Fin 4 → EReal) (b : Fin B) (d : Fin D) (k : Fin 4) : EReal :=
  if 0 < count (fun n => hard (p b n)) (BitVec.ofNat 32 k)
  then Ideal.div (wsum (fun n => f b d n) (fun n => conf (p b n)) (fun n => hard (p b n)) (BitVec.ofNat 32 k))
    (max (count (fun n => hard (p b n)) (BitVec.ofNat 32 k)) 1)
  else 0

/-- The cosine of a pixel's features and its class's centre. -/
def rel (f : Fin B → Fin D → Fin N → EReal) (p : Fin B → Fin N → Fin 4 → EReal) (b : Fin B) (n : Fin N) : EReal :=
  cosOf (fun d => f b d n) (fun d k => centre f p b d k) (hard (p b n))

/-- The cosines of a pixel, summed over the images. -/
def relRow (f : Fin B → Fin D → Fin N → EReal) (p : Fin B → Fin N → Fin 4 → EReal) (n : Fin N) : EReal := ∑ b, rel f p b n

/-- Head `r`'s cross entropies at a pixel against the class that the heads `p` and `q` settle on, summed over the images. -/
def ceRow (r p q : Fin B → Fin N → Fin 4 → EReal) (n : Fin N) : EReal := ∑ b, ce (r b n) (pseudo (p b n) (q b n))

/-- The loss: each head's cross entropies weighted by the other head's cosines, over the sum of those cosines. -/
def loss (p q : Fin B → Fin N → Fin 4 → EReal) (f g : Fin B → Fin D → Fin N → EReal) : EReal :=
  Ideal.div (∑ n, ceRow p p q n * relRow g q n) (∑ n, relRow g q n)
    + Ideal.div (∑ n, ceRow q p q n * relRow f p n) (∑ n, relRow f p n)

end Cert.Pixel

end
-- ==== Proof.Routing.lean ====
/-
  What the routing call computes of one block of logits, at one pixel: the confidences, the winning classes, and the cross
  entropies summed over the images.
-/
module

public import proofs.«01_k».proof.Proof.Pixel
public import proofs.«01_k».proof.Proof.Gen.KernelIdeal.Skeleton
public import Idealize.ShloMosaic.Lib.Pointwise
public import Idealize.ShloMosaic.Lib.Tactic

@[expose] public section

set_option maxRecDepth 16384

noncomputable section

namespace Cert.KernelValue

open Idealize.ShloMosaic Idealize.SL.Sem
open Cert.KernelIdeal Cert.KernelIdeal.Gen Cert.Pixel

/-- The logits of pixel `n` of image `b` in a block. -/
abbrev blkLogits (x : Vec Ideal S8x4x3584 .f32) (b : Fin 8) (n : Fin 3584) : Fin 4 → EReal := fun k => x (ix3 b k n)

/-- A selection by an equality of words. -/
theorem select_eq {α : Type} (k l : BitVec 32) (x y : α) :
    Scalar.select (IntOp.cmpi .eq k l) x y = if k = l then x else y := by
  by_cases h : k = l
  · simp [Scalar.select, IntOp.cmpi, h]
  · have hb : (k == l) = false := by simpa using h
    simp [Scalar.select, IntOp.cmpi, h, hb]

/-- A head's winning classes. -/
theorem hard_first (x : Vec Ideal S8x4x3584 .f32) (b : Fin 8) (n : Fin 3584) :
    k0_pay11 (F := Ideal) x (ix2 b n) = hard (blkLogits x b n) := by
  pointwise [k0_pay11, k0_pay10, k0_pay9, k0_pay5, k0_pay6, k0_pay7, k0_pay8, k0_pay3]
  rfl

/-- The first head's confidences. -/
theorem conf_first (x : Vec Ideal S8x4x3584 .f32) (b : Fin 8) (n : Fin 3584) :
    k0_pay14 (F := Ideal) x (ix2 b n) = conf (blkLogits x b n) := by
  pointwise [k0_pay14, k0_pay13, k0_pay12, k0_pay10, k0_pay9, k0_pay5, k0_pay6, k0_pay7, k0_pay8, k0_pay3]
  rfl

/-- The second head's winning classes. -/
theorem hard_second (x : Vec Ideal S8x4x3584 .f32) (b : Fin 8) (n : Fin 3584) :
    k0_pay22 (F := Ideal) (k0_pay16 x) (k0_pay17 x) (k0_pay18 x) (k0_pay19 x) (ix2 b n) = hard (blkLogits x b n) := by
  pointwise [k0_pay22, k0_pay21, k0_pay20, k0_pay16, k0_pay17, k0_pay18, k0_pay19, k0_pay4]
  rfl

/-- The second head's confidences. -/
theorem conf_second (x : Vec Ideal S8x4x3584 .f32) (b : Fin 8) (n : Fin 3584) :
    k0_pay25 (F := Ideal) (k0_pay16 x) (k0_pay17 x) (k0_pay18 x) (k0_pay19 x) (ix2 b n) = conf (blkLogits x b n) := by
  pointwise [k0_pay25, k0_pay24, k0_pay23, k0_pay21, k0_pay20, k0_pay16, k0_pay17, k0_pay18, k0_pay19, k0_pay4]
  rfl

/-- The class that the two heads settle on. -/
theorem pseudo_at (x y : Vec Ideal S8x4x3584 .f32) (b : Fin 8) (n : Fin 3584) :
    k0_pay27 (F := Ideal) (k0_pay11 x) (k0_pay14 x) (k0_pay16 y) (k0_pay17 y) (k0_pay18 y) (k0_pay19 y) (ix2 b n)
      = pseudo (blkLogits x b n) (blkLogits y b n) := by
  have h : k0_pay27 (F := Ideal) (k0_pay11 x) (k0_pay14 x) (k0_pay16 y) (k0_pay17 y) (k0_pay18 y) (k0_pay19 y) (ix2 b n)
      = Scalar.select (FloatOps.cmpf .oge (k0_pay14 (F := Ideal) x (ix2 b n)) (k0_pay25 (F := Ideal) (k0_pay16 y) (k0_pay17 y) (k0_pay18 y) (k0_pay19 y) (ix2 b n)))
          (k0_pay11 (F := Ideal) x (ix2 b n)) (k0_pay22 (F := Ideal) (k0_pay16 y) (k0_pay17 y) (k0_pay18 y) (k0_pay19 y) (ix2 b n)) := rfl
  rw [h, hard_first, conf_first, hard_second, conf_second]
  pointwise
  rfl

/-- The first head's cross entropy. -/
theorem ce_first (x y : Vec Ideal S8x4x3584 .f32) (b : Fin 8) (n : Fin 3584) :
    k0_pay28 (F := Ideal) (k0_pay3 x) (k0_pay11 x) (k0_pay14 x) (k0_pay15 x) (k0_pay16 y) (k0_pay17 y) (k0_pay18 y) (k0_pay19 y) (ix2 b n)
      = ce (blkLogits x b n) (pseudo (blkLogits x b n) (blkLogits y b n)) := by
  rw [← pseudo_at]
  generalize hk : k0_pay27 (F := Ideal) (k0_pay11 x) (k0_pay14 x) (k0_pay16 y) (k0_pay17 y) (k0_pay18 y) (k0_pay19 y) (ix2 b n) = k
  pointwise [k0_pay28, k0_pay15, k0_pay13, k0_pay12, k0_pay10, k0_pay9, k0_pay5, k0_pay6, k0_pay7, k0_pay8, k0_pay3]
  simp only [hk, select_eq]
  rfl

/-- The first head's cross entropies, summed over the images. -/
theorem ceSum_first (x y : Vec Ideal S8x4x3584 .f32) (n : Fin 3584) :
    k0_pay1 (F := Ideal) (k0_pay28 (k0_pay3 x) (k0_pay11 x) (k0_pay14 x) (k0_pay15 x) (k0_pay16 y) (k0_pay17 y) (k0_pay18 y) (k0_pay19 y)) (ix2 0 n)
      = ∑ b : Fin 8, ce (blkLogits x b n) (pseudo (blkLogits x b n) (blkLogits y b n)) := by
  pointwise [k0_pay1]
  exact Finset.sum_congr rfl fun b _ => ce_first x y b n

/-- The second head's cross entropies, summed over the images. -/
theorem ceSum_second (x y : Vec Ideal S8x4x3584 .f32) (n : Fin 3584) :
    k0_pay2 (F := Ideal) (k0_pay4 y) (k0_pay26 (k0_pay16 y) (k0_pay17 y) (k0_pay18 y) (k0_pay19 y))
        (k0_pay27 (k0_pay11 x) (k0_pay14 x) (k0_pay16 y) (k0_pay17 y) (k0_pay18 y) (k0_pay19 y)) (k0_pay29 (k0_pay4 y)) (k0_pay30) (ix2 0 n)
      = ∑ b : Fin 8, ce (blkLogits y b n) (pseudo (blkLogits x b n) (blkLogits y b n)) := by
  have hk : ∀ b, k0_pay27 (F := Ideal) (k0_pay11 x) (k0_pay14 x) (k0_pay16 y) (k0_pay17 y) (k0_pay18 y) (k0_pay19 y) (ix2 b n) = _ := fun b => pseudo_at x y b n
  generalize k0_pay27 (F := Ideal) (k0_pay11 x) (k0_pay14 x) (k0_pay16 y) (k0_pay17 y) (k0_pay18 y) (k0_pay19 y) = k at hk
  pointwise [k0_pay2, k0_pay30, k0_pay29, k0_pay26, k0_pay24, k0_pay23, k0_pay21, k0_pay20, k0_pay16, k0_pay17, k0_pay18, k0_pay19, k0_pay4]
  simp only [hk, select_eq]
  rfl

end Cert.KernelValue

end
-- ==== Proof.Region0.lean ====
/-
  What the routing call leaves in its six arrays, at the contents `V` of the arrays when it starts.
-/
module

public import proofs.«01_k».proof.Proof.Routing
public import proofs.«01_k».proof.Proof.Gen.KernelIdeal.Frame
public import Idealize.ShloMosaic.Lib.Pipeline.ValueKit

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen Cert.Pixel

variable (V : (c : Dev nD) → (b : Ref sig .tc) → Buf (Elt Ideal) ((c : Thread nD τ).loc b)) (c : Dev nD)

/-- The logits of pixel `n` of image `b` in an array of logits whose pixels are in one row. -/
abbrev rowLogits (x : Vec Ideal S8x4x50176 .f32) (b : Fin 8) (n : Fin 50176) : Fin 4 → EReal := fun k => x (ix3 b k n)

/-- Head `Z`'s cross entropies at pixel `n` against the class that the heads `X` and `Y` settle on, summed over the images. -/
def ceSum (Z X Y : Vec Ideal S8x4x50176 .f32) (n : Fin 50176) : EReal :=
  ∑ b : Fin 8, ce (rowLogits Z b n) (pseudo (rowLogits X b n) (rowLogits Y b n))

/-- The block indices of the routing call's windows. -/
theorem index0 : ∀ t : Fin cfg0.N, win0_0.index t = ![0, 0, t.val] ∧ win0_1.index t = ![0, 0, t.val]
    ∧ win0_2.index t = ![0, t.val] ∧ win0_3.index t = ![0, t.val] ∧ win0_4.index t = ![0, t.val] ∧ win0_5.index t = ![0, t.val]
    ∧ win0_6.index t = ![0, t.val] ∧ win0_7.index t = ![0, t.val] := by decide +kernel

/-- A load of a whole block of logits is the block. -/
theorem ld_logits (x : Vec Ideal S8x4x3584 .f32) : View.ld x r0_0 = x :=
  View.ld_unit_zero (S := S8x4x3584) (funext fun a => by fin_cases a <;> rfl) _ x

/-- The first head's block of logits at a grid point, in the array. -/
theorem logits0 (t : Fin cfg0.N) (b : Fin 8) (n : Fin 3584) (b' : Fin 8) (n' : Fin 50176) (hb : (b' : ℕ) = b) (hn : (n' : ℕ) = t.val * 3584 + n) :
    blkLogits (iblk0 V c 0 t) b n = rowLogits (V c main_v0) b' n' := by
  funext k
  have e := (index0 t).1
  show iblk0 V c 0 t (ix3 b k n) = V c main_v0 (ix3 b' k n')
  blk_ext [iblk0, e]

/-- The second head's block of logits at a grid point, in the array. -/
theorem logits1 (t : Fin cfg0.N) (b : Fin 8) (n : Fin 3584) (b' : Fin 8) (n' : Fin 50176) (hb : (b' : ℕ) = b) (hn : (n' : ℕ) = t.val * 3584 + n) :
    blkLogits (iblk0 V c 1 t) b n = rowLogits (V c main_v1) b' n' := by
  funext k
  have e := (index0 t).2.1
  show iblk0 V c 1 t (ix3 b k n) = V c main_v1 (ix3 b' k n')
  blk_ext [iblk0, e]

/-- The first head's summed cross entropies at a grid point, in the arrays. -/
theorem ceSum_blk0 (t : Fin cfg0.N) (n : Fin 3584) (n' : Fin 50176) (hn : (n' : ℕ) = t.val * 3584 + n) :
    (∑ b : Fin 8, ce (blkLogits (iblk0 V c 0 t) b n) (pseudo (blkLogits (iblk0 V c 0 t) b n) (blkLogits (iblk0 V c 1 t) b n)))
      = ceSum (V c main_v0) (V c main_v0) (V c main_v1) n' := by
  unfold ceSum
  refine Finset.sum_congr rfl fun b _ => ?_
  rw [logits0 V c t b n b n' rfl hn, logits1 V c t b n b n' rfl hn]

/-- The second head's summed cross entropies at a grid point, in the arrays. -/
theorem ceSum_blk1 (t : Fin cfg0.N) (n : Fin 3584) (n' : Fin 50176) (hn : (n' : ℕ) = t.val * 3584 + n) :
    (∑ b : Fin 8, ce (blkLogits (iblk0 V c 1 t) b n) (pseudo (blkLogits (iblk0 V c 0 t) b n) (blkLogits (iblk0 V c 1 t) b n)))
      = ceSum (V c main_v1) (V c main_v0) (V c main_v1) n' := by
  unfold ceSum
  refine Finset.sum_congr rfl fun b _ => ?_
  rw [logits0 V c t b n b n' rfl hn, logits1 V c t b n b n' rfl hn]

/-- The first head's confidences. -/
theorem arr0_2 : (dat0 V c).arrAt 2 cfg0.N
    = (fun i : S8x50176.Idx => conf (rowLogits (V c main_v0) (i 0) (i 1)) : Vec Ideal S8x50176 .f32) := by
  refine (dat0 V c).arrAt_eq_of_covers 2 _ (by decide +kernel) fun t hf y => ?_
  obtain ⟨b, n, rfl⟩ : ∃ (b : Fin 8) (n : Fin 3584), y = ix2 b n := ⟨y 0, y 1, eq_ix2 y⟩
  have e := (index0 t).2.2.1
  blk_simp
  rw [after0_2]
  frame_out
  unfold k0_pay33
  rw [ld_logits, conf_first]
  refine congrArg conf (logits0 V c t b n _ _ ?_ ?_) <;> blk_simp [e]

/-- The second head's confidences. -/
theorem arr0_3 : (dat0 V c).arrAt 3 cfg0.N
    = (fun i : S8x50176.Idx => conf (rowLogits (V c main_v1) (i 0) (i 1)) : Vec Ideal S8x50176 .f32) := by
  refine (dat0 V c).arrAt_eq_of_covers 3 _ (by decide +kernel) fun t hf y => ?_
  obtain ⟨b, n, rfl⟩ : ∃ (b : Fin 8) (n : Fin 3584), y = ix2 b n := ⟨y 0, y 1, eq_ix2 y⟩
  have e := (index0 t).2.2.2.1
  blk_simp
  rw [after0_3]
  frame_out
  unfold k0_pay34 k0_pay35 k0_pay36 k0_pay37
  rw [ld_logits, conf_second]
  refine congrArg conf (logits1 V c t b n _ _ ?_ ?_) <;> blk_simp [e]

/-- The first head's classes. -/
theorem arr0_4 : (dat0 V c).arrAt 4 cfg0.N
    = (fun i : S8x50176.Idx => hard (rowLogits (V c main_v0) (i 0) (i 1)) : Vec Ideal S8x50176 .i32) := by
  refine (dat0 V c).arrAt_eq_of_covers 4 _ (by decide +kernel) fun t hf y => ?_
  obtain ⟨b, n, rfl⟩ : ∃ (b : Fin 8) (n : Fin 3584), y = ix2 b n := ⟨y 0, y 1, eq_ix2 y⟩
  have e := (index0 t).2.2.2.2.1
  blk_simp
  rw [after0_4]
  frame_out
  unfold k0_pay32
  rw [ld_logits, hard_first]
  refine congrArg hard (logits0 V c t b n _ _ ?_ ?_) <;> blk_simp [e]

/-- The second head's classes. -/
theorem arr0_5 : (dat0 V c).arrAt 5 cfg0.N
    = (fun i : S8x50176.Idx => hard (rowLogits (V c main_v1) (i 0) (i 1)) : Vec Ideal S8x50176 .i32) := by
  refine (dat0 V c).arrAt_eq_of_covers 5 _ (by decide +kernel) fun t hf y => ?_
  obtain ⟨b, n, rfl⟩ : ∃ (b : Fin 8) (n : Fin 3584), y = ix2 b n := ⟨y 0, y 1, eq_ix2 y⟩
  have e := (index0 t).2.2.2.2.2.1
  blk_simp
  rw [after0_5]
  frame_out
  unfold k0_pay34 k0_pay35 k0_pay36 k0_pay37
  rw [ld_logits, hard_second]
  refine congrArg hard (logits1 V c t b n _ _ ?_ ?_) <;> blk_simp [e]

/-- The first head's summed cross entropies of a block, of the values that the body names. -/
theorem out0_6_at (x y : Vec Ideal S8x4x3584 .f32) (n : Fin 3584) :
    k0_pay1 (F := Ideal) (k0_pay28 (k0_pay3 x) (k0_pay32 x y) (k0_pay33 x y) (k0_pay15 x) (k0_pay34 x y) (k0_pay35 x y) (k0_pay36 x y) (k0_pay37 x y)) (ix2 0 n)
      = ∑ b : Fin 8, ce (blkLogits x b n) (pseudo (blkLogits x b n) (blkLogits y b n)) := by
  unfold k0_pay32 k0_pay33 k0_pay34 k0_pay35 k0_pay36 k0_pay37
  rw [ld_logits x, ld_logits y, ceSum_first]

/-- The first head's cross entropies against the class that both heads settle on, summed over the images. -/
theorem arr0_6 : (dat0 V c).arrAt 6 cfg0.N
    = (fun i : S1x50176.Idx => ceSum (V c main_v0) (V c main_v0) (V c main_v1) (i 1) : Vec Ideal S1x50176 .f32) := by
  refine (dat0 V c).arrAt_eq_of_covers 6 _ (by decide +kernel) fun t hf y => ?_
  obtain ⟨n, rfl⟩ : ∃ n : Fin 3584, y = ix2 0 n := ⟨y 1, (eq_ix2 y).trans (by congr 1; exact Subsingleton.elim (α := Fin 1) _ _)⟩
  have e := (index0 t).2.2.2.2.2.2.1
  blk_simp
  rw [after0_6]
  frame_out
  rw [out0_6_at]
  exact ceSum_blk0 V c t n _ (by blk_simp [e])

/-- The second head's summed cross entropies of a block, of the values that the body names. -/
theorem out0_7_at (x y : Vec Ideal S8x4x3584 .f32) (n : Fin 3584) :
    k0_pay2 (F := Ideal) (k0_pay31 x y) (k0_pay26 (k0_pay34 x y) (k0_pay35 x y) (k0_pay36 x y) (k0_pay37 x y)) (k0_pay27 (k0_pay32 x y) (k0_pay33 x y) (k0_pay34 x y) (k0_pay35 x y) (k0_pay36 x y) (k0_pay37 x y)) (k0_pay29 (k0_pay31 x y)) k0_pay30 (ix2 0 n)
      = ∑ b : Fin 8, ce (blkLogits y b n) (pseudo (blkLogits x b n) (blkLogits y b n)) := by
  unfold k0_pay31 k0_pay32 k0_pay33 k0_pay34 k0_pay35 k0_pay36 k0_pay37
  rw [ld_logits x, ld_logits y, ceSum_second]

/-- The second head's cross entropies against the class that both heads settle on, summed over the images. -/
theorem arr0_7 : (dat0 V c).arrAt 7 cfg0.N
    = (fun i : S1x50176.Idx => ceSum (V c main_v1) (V c main_v0) (V c main_v1) (i 1) : Vec Ideal S1x50176 .f32) := by
  refine (dat0 V c).arrAt_eq_of_covers 7 _ (by decide +kernel) fun t hf y => ?_
  obtain ⟨n, rfl⟩ : ∃ n : Fin 3584, y = ix2 0 n := ⟨y 1, (eq_ix2 y).trans (by congr 1; exact Subsingleton.elim (α := Fin 1) _ _)⟩
  have e := (index0 t).2.2.2.2.2.2.2
  blk_simp
  rw [after0_7]
  frame_out
  rw [out0_7_at]
  exact ceSum_blk1 V c t n _ (by blk_simp [e])

end Cert.KernelValue

end
-- ==== Proof.Centers.lean ====
/-
  What the centres call adds at one grid point: for every image and class the sum of the features weighted by the
  confidences over the point's pixels of that class, and the number of those pixels.
-/
module

public import proofs.«01_k».proof.Proof.Routing

@[expose] public section

set_option maxRecDepth 16384

noncomputable section

namespace Cert.KernelValue

open Idealize.ShloMosaic Idealize.SL.Sem
open Cert.KernelIdeal Cert.KernelIdeal.Gen Cert.Pixel

/-- The centres call's class numbers: every entry of the block is its class. -/
abbrev classes : IVec S8x4x1792 32 := iota .tc S8x4x1792 32 [1] iota_S8x4x1792_d1_w32

/-- An equality of words, widened and turned into a number, is one or zero. -/
theorem sitofp_eq (k l : BitVec 32) :
    FloatOps.sitofp (F := Ideal) .f32 (BitVec.setWidth 32 (IntOp.cmpi .eq k l)) = ind k l := by
  unfold ind
  by_cases h : k = l
  · subst h
    have e : BitVec.setWidth 32 (IntOp.cmpi .eq k k) = 1#32 := by simp [IntOp.cmpi]
    rw [e, if_pos rfl]
    show (((1#32 : BitVec 32).toInt : ℝ) : EReal) = 1
    simp
  · have hb : (k == l) = false := by simpa using h
    have e : BitVec.setWidth 32 (IntOp.cmpi .eq k l) = 0#32 := by simp [IntOp.cmpi, hb]
    rw [e, if_neg h]
    show (((0#32 : BitVec 32).toInt : ℝ) : EReal) = 0
    simp

/-- The first head's weighted sums. -/
theorem sums_first (x : Vec Ideal S8x64x1792 .f32) (p : Vec Ideal S8x1792 .f32) (h : Vec Ideal S8x1792 .i32) (z : Vec Ideal S8x64x4 .f32)
    (b : Fin 8) (d : Fin 64) (k : Fin 4) : k1_pay9 (F := Ideal) x p h z (ix3 b d k)
      = z (ix3 b d k) + wsum (fun n : Fin 1792 => x (ix3 b d n)) (fun n => p (ix2 b n)) (fun n => h (ix2 b n)) (BitVec.ofNat 32 k) := by
  pointwise [k1_pay9, k1_pay8]
  simp only [sitofp_eq]
  rfl

/-- The first head's counts. -/
theorem counts_first (h : Vec Ideal S8x1792 .i32) (z : Vec Ideal S8x4 .f32)
    (b : Fin 8) (k : Fin 4) : k1_pay10 (F := Ideal) h z (ix2 b k)
      = z (ix2 b k) + count (fun n : Fin 1792 => h (ix2 b n)) (BitVec.ofNat 32 k) := by
  pointwise [k1_pay10, k1_pay8]
  simp only [sitofp_eq]
  rfl

/-- The second head's weighted sums. -/
theorem sums_second (x : Vec Ideal S8x64x1792 .f32) (p : Vec Ideal S8x1792 .f32) (h : Vec Ideal S8x1792 .i32) (z : Vec Ideal S8x64x4 .f32)
    (b : Fin 8) (d : Fin 64) (k : Fin 4) : k1_pay2 (F := Ideal) classes (k1_pay11 x) p h z (ix3 b d k)
      = z (ix3 b d k) + wsum (fun n : Fin 1792 => x (ix3 b d n)) (fun n => p (ix2 b n)) (fun n => h (ix2 b n)) (BitVec.ofNat 32 k) :=
  sums_first x p h z b d k

/-- The second head's counts. -/
theorem counts_second (h : Vec Ideal S8x1792 .i32) (z : Vec Ideal S8x4 .f32)
    (b : Fin 8) (k : Fin 4) : k1_pay3 (F := Ideal) classes h z (ix2 b k)
      = z (ix2 b k) + count (fun n : Fin 1792 => h (ix2 b n)) (BitVec.ofNat 32 k) :=
  counts_first h z b k

end Cert.KernelValue

end
-- ==== Proof.Region1.lean ====
/-
  What the centres call leaves in its four arrays, at the contents `V` of the arrays when it starts.
-/
module

public import proofs.«01_k».proof.Proof.Centers
public import proofs.«01_k».proof.Proof.Gen.KernelIdeal.Frame
public import Idealize.ShloMosaic.Lib.Pipeline.ValueKit

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen Cert.Pixel

variable (V : (c : Dev nD) → (b : Ref sig .tc) → Buf (Elt Ideal) ((c : Thread nD τ).loc b)) (c : Dev nD)

/-- The block indices of the centres call's windows. -/
theorem index1 : ∀ t : Fin cfg1.N, win1_0.index t = ![0, 0, t.val] ∧ win1_1.index t = ![0, 0, t.val]
    ∧ win1_2.index t = ![0, t.val] ∧ win1_3.index t = ![0, t.val] ∧ win1_4.index t = ![0, t.val] ∧ win1_5.index t = ![0, t.val] := by decide +kernel

/-- The last grid point of the centres call. -/
abbrev last1 : Fin cfg1.N := ⟨27, by decide⟩

/-- The weighted sums of an array of features whose pixels are in one row. -/
def sumsOf (x : Vec Ideal S8x64x50176 .f32) (p : Vec Ideal S8x50176 .f32) (h : Vec Ideal S8x50176 .i32) (b : Fin 8) (d : Fin 64) (k : Fin 4) : EReal :=
  wsum (fun n : Fin 50176 => x (ix3 b d n)) (fun n => p (ix2 b n)) (fun n => h (ix2 b n)) (BitVec.ofNat 32 k)

/-- The numbers of pixels of a class. -/
def countOf (h : Vec Ideal S8x50176 .i32) (b : Fin 8) (k : Fin 4) : EReal :=
  count (fun n : Fin 50176 => h (ix2 b n)) (BitVec.ofNat 32 k)

/-- The weighted sums of the grid points, together. -/
theorem sums_points (x : Vec Ideal S8x64x50176 .f32) (p : Vec Ideal S8x50176 .f32) (h : Vec Ideal S8x50176 .i32)
    (x' : Fin cfg1.N → Vec Ideal S8x64x1792 .f32) (p' : Fin cfg1.N → Vec Ideal S8x1792 .f32) (h' : Fin cfg1.N → Vec Ideal S8x1792 .i32)
    (b : Fin 8) (d : Fin 64) (k : Fin 4)
    (e : ∀ (t : Fin cfg1.N) (n : Fin 1792) (n' : Fin 50176), (n' : ℕ) = t.val * 1792 + n → x' t (ix3 b d n) = x (ix3 b d n')
      ∧ p' t (ix2 b n) = p (ix2 b n') ∧ h' t (ix2 b n) = h (ix2 b n')) :
    (∑ t : Fin cfg1.N, wsum (fun n : Fin 1792 => x' t (ix3 b d n)) (fun n => p' t (ix2 b n)) (fun n => h' t (ix2 b n)) (BitVec.ofNat 32 k))
      = sumsOf x p h b d k := by
  refine Fin.sum_mul_add_congr (S := cfg1.N) (n := 1792) (fun t n hl => ?_) (by decide)
  obtain ⟨e1, e2, e3⟩ := e t n ⟨_, hl⟩ rfl
  dsimp only
  rw [e1, e2, e3]

/-- The counts of the grid points, together. -/
theorem counts_points (h : Vec Ideal S8x50176 .i32) (h' : Fin cfg1.N → Vec Ideal S8x1792 .i32) (b : Fin 8) (k : Fin 4)
    (e : ∀ (t : Fin cfg1.N) (n : Fin 1792) (n' : Fin 50176), (n' : ℕ) = t.val * 1792 + n → h' t (ix2 b n) = h (ix2 b n')) :
    (∑ t : Fin cfg1.N, count (fun n : Fin 1792 => h' t (ix2 b n)) (BitVec.ofNat 32 k)) = countOf h b k := by
  refine Fin.sum_mul_add_congr (S := cfg1.N) (n := 1792) (fun t n hl => ?_) (by decide)
  dsimp only
  rw [e t n ⟨_, hl⟩ rfl]

/-- The zero blocks that the first grid point stores. -/
theorem zeros3 (j : S8x64x4.Idx) : (k1_pay4 (F := Ideal) j : EReal) = 0 ∧ (k1_pay5 (F := Ideal) j : EReal) = 0 :=
  ⟨Ideal.ofBits_zero .f32, Ideal.ofBits_zero .f32⟩

/-- The zero blocks of the counts. -/
theorem zeros2 (j : S8x4.Idx) : (k1_pay6 (F := Ideal) j : EReal) = 0 ∧ (k1_pay7 (F := Ideal) j : EReal) = 0 :=
  ⟨Ideal.ofBits_zero .f32, Ideal.ofBits_zero .f32⟩

/-- What the block of the first head's weighted sums holds after the last grid point. -/
theorem outs1_6 (b : Fin 8) (d : Fin 64) (k : Fin 4) : (outsAt1 V c last1.val last1.isLt).1 (ix3 b d k)
    = sumsOf (V c main_v2) (V c main_v4_0) (V c main_v4_2) b d k := by
  rw [Pipeline.eq_sum_fin_of_reset_step_apply_last (fun n h => (outsAt1 V c n h).1) 28 (fun _ => (0 : EReal))
      (fun t j => wsum (fun n : Fin 1792 => iblk1 V c 0 t (ix3 (j 0) (j 1) n)) (fun n => iblk1 V c 2 t (ix2 (j 0) n)) (fun n => iblk1 V c 4 t (ix2 (j 0) n)) (BitVec.ofNat 32 (j 2)))
      (fun t h j => by
        rw [outsAt1_A V c t h]; frame_out; rw [eq_ix3 j]
        exact (sums_first _ _ _ _ (j 0) (j 1) (j 2)).trans (congrArg (· + _) (zeros3 _).1))
      (fun t h j => by
        rw [outsAt1_B V c t h]; frame_out; rw [eq_ix3 j]
        exact sums_first _ _ _ _ (j 0) (j 1) (j 2))
      (le_of_eq N_1) last1 rfl (ix3 b d k), zero_add]
  refine sums_points _ _ _ (fun t => iblk1 V c 0 t) (fun t => iblk1 V c 2 t) (fun t => iblk1 V c 4 t) b d k fun t n n' hn => ?_
  have e := index1 t
  refine ⟨?_, ?_, ?_⟩ <;> blk_ext [iblk1, e.1, e.2.2.1, e.2.2.2.2.1]

/-- The first head's weighted sums, image by image, feature by feature, class by class. -/
theorem arr1_6 : (dat1 V c).arrAt 6 cfg1.N
    = (fun i : S8x64x4.Idx => sumsOf (V c main_v2) (V c main_v4_0) (V c main_v4_2) (i 0) (i 1) (i 2) : Vec Ideal S8x64x4 .f32) := by
  refine (dat1 V c).arrAt_eq_of_after_last 6 last1 (by decide +kernel) _ fun j => ?_
  rw [after1_6]
  obtain ⟨b, d, k, rfl⟩ : ∃ (b : Fin 8) (d : Fin 64) (k : Fin 4), j = ix3 b d k := ⟨j 0, j 1, j 2, eq_ix3 j⟩
  exact (outs1_6 V c b d k)

/-- What the block of the second head's weighted sums holds after the last grid point. -/
theorem outs1_7 (b : Fin 8) (d : Fin 64) (k : Fin 4) : (outsAt1 V c last1.val last1.isLt).2.1 (ix3 b d k)
    = sumsOf (V c main_v3) (V c main_v4_1) (V c main_v4_3) b d k := by
  rw [Pipeline.eq_sum_fin_of_reset_step_apply_last (fun n h => (outsAt1 V c n h).2.1) 28 (fun _ => (0 : EReal))
      (fun t j => wsum (fun n : Fin 1792 => iblk1 V c 1 t (ix3 (j 0) (j 1) n)) (fun n => iblk1 V c 3 t (ix2 (j 0) n)) (fun n => iblk1 V c 5 t (ix2 (j 0) n)) (BitVec.ofNat 32 (j 2)))
      (fun t h j => by
        rw [outsAt1_A V c t h]; frame_out; rw [eq_ix3 j]
        exact (sums_second _ _ _ _ (j 0) (j 1) (j 2)).trans (congrArg (· + _) (zeros3 _).2))
      (fun t h j => by
        rw [outsAt1_B V c t h]; frame_out; rw [eq_ix3 j]
        exact sums_second _ _ _ _ (j 0) (j 1) (j 2))
      (le_of_eq N_1) last1 rfl (ix3 b d k), zero_add]
  refine sums_points _ _ _ (fun t => iblk1 V c 1 t) (fun t => iblk1 V c 3 t) (fun t => iblk1 V c 5 t) b d k fun t n n' hn => ?_
  have e := index1 t
  refine ⟨?_, ?_, ?_⟩ <;> blk_ext [iblk1, e.2.1, e.2.2.2.1, e.2.2.2.2.2]

/-- The second head's weighted sums, image by image, feature by feature, class by class. -/
theorem arr1_7 : (dat1 V c).arrAt 7 cfg1.N
    = (fun i : S8x64x4.Idx => sumsOf (V c main_v3) (V c main_v4_1) (V c main_v4_3) (i 0) (i 1) (i 2) : Vec Ideal S8x64x4 .f32) := by
  refine (dat1 V c).arrAt_eq_of_after_last 7 last1 (by decide +kernel) _ fun j => ?_
  rw [after1_7]
  obtain ⟨b, d, k, rfl⟩ : ∃ (b : Fin 8) (d : Fin 64) (k : Fin 4), j = ix3 b d k := ⟨j 0, j 1, j 2, eq_ix3 j⟩
  exact (outs1_7 V c b d k)

/-- What the block of the first head's counts holds after the last grid point. -/
theorem outs1_8 (b : Fin 8) (k : Fin 4) : (outsAt1 V c last1.val last1.isLt).2.2.1 (ix2 b k) = countOf (V c main_v4_2) b k := by
  rw [Pipeline.eq_sum_fin_of_reset_step_apply_last (fun n h => (outsAt1 V c n h).2.2.1) 28 (fun _ => (0 : EReal))
      (fun t j => count (fun n : Fin 1792 => iblk1 V c 4 t (ix2 (j 0) n)) (BitVec.ofNat 32 (j 1)))
      (fun t h j => by
        rw [outsAt1_A V c t h]; frame_out; rw [eq_ix2 j]
        exact (counts_first _ _ (j 0) (j 1)).trans (congrArg (· + _) (zeros2 _).1))
      (fun t h j => by
        rw [outsAt1_B V c t h]; frame_out; rw [eq_ix2 j]
        exact counts_first _ _ (j 0) (j 1))
      (le_of_eq N_1) last1 rfl (ix2 b k), zero_add]
  refine counts_points _ (fun t => iblk1 V c 4 t) b k fun t n n' hn => ?_
  have e := index1 t
  blk_ext [iblk1, e.2.2.2.2.1]

/-- The first head's counts, image by image, class by class. -/
theorem arr1_8 : (dat1 V c).arrAt 8 cfg1.N
    = (fun i : S8x4.Idx => countOf (V c main_v4_2) (i 0) (i 1) : Vec Ideal S8x4 .f32) := by
  refine (dat1 V c).arrAt_eq_of_after_last 8 last1 (by decide +kernel) _ fun j => ?_
  rw [after1_8]
  obtain ⟨b, k, rfl⟩ : ∃ (b : Fin 8) (k : Fin 4), j = ix2 b k := ⟨j 0, j 1, eq_ix2 j⟩
  exact outs1_8 V c b k

/-- What the block of the second head's counts holds after the last grid point. -/
theorem outs1_9 (b : Fin 8) (k : Fin 4) : (outsAt1 V c last1.val last1.isLt).2.2.2 (ix2 b k) = countOf (V c main_v4_3) b k := by
  rw [Pipeline.eq_sum_fin_of_reset_step_apply_last (fun n h => (outsAt1 V c n h).2.2.2) 28 (fun _ => (0 : EReal))
      (fun t j => count (fun n : Fin 1792 => iblk1 V c 5 t (ix2 (j 0) n)) (BitVec.ofNat 32 (j 1)))
      (fun t h j => by
        rw [outsAt1_A V c t h]; frame_out; rw [eq_ix2 j]
        exact (counts_second _ _ (j 0) (j 1)).trans (congrArg (· + _) (zeros2 _).2))
      (fun t h j => by
        rw [outsAt1_B V c t h]; frame_out; rw [eq_ix2 j]
        exact counts_second _ _ (j 0) (j 1))
      (le_of_eq N_1) last1 rfl (ix2 b k), zero_add]
  refine counts_points _ (fun t => iblk1 V c 5 t) b k fun t n n' hn => ?_
  have e := index1 t
  blk_ext [iblk1, e.2.2.2.2.2]

/-- The second head's counts, image by image, class by class. -/
theorem arr1_9 : (dat1 V c).arrAt 9 cfg1.N
    = (fun i : S8x4.Idx => countOf (V c main_v4_3) (i 0) (i 1) : Vec Ideal S8x4 .f32) := by
  refine (dat1 V c).arrAt_eq_of_after_last 9 last1 (by decide +kernel) _ fun j => ?_
  rw [after1_9]
  obtain ⟨b, k, rfl⟩ : ∃ (b : Fin 8) (k : Fin 4), j = ix2 b k := ⟨j 0, j 1, eq_ix2 j⟩
  exact outs1_9 V c b k

end Cert.KernelValue

end
-- ==== Proof.Cos.lean ====
/-
  What the reliability call computes at one grid point: for every pixel of the point the cosine of its features and its
  class's centre, summed over the images, and the four sums that it accumulates.
-/
module

public import proofs.«01_k».proof.Proof.Routing

@[expose] public section

set_option maxRecDepth 16384

noncomputable section

namespace Cert.KernelValue

open Idealize.ShloMosaic Idealize.SL.Sem
open Cert.KernelIdeal Cert.KernelIdeal.Gen Cert.Pixel

/-- The cosines of a block at one pixel, summed over the images. -/
def blkRel (x : Vec Ideal S8x64x1792 .f32) (h : Vec Ideal S8x1792 .i32) (z : Vec Ideal S8x64x4 .f32) (n : Fin 1792) : EReal :=
  ∑ b : Fin 8, cosOf (fun d : Fin 64 => x (ix3 b d n)) (fun d k => z (ix3 b d k)) (h (ix2 b n))

/-- The first head's cosines. -/
theorem rel_first (x : Vec Ideal S8x64x1792 .f32) (h : Vec Ideal S8x1792 .i32) (z : Vec Ideal S8x64x4 .f32)
    (n : Fin 1792) : k2_pay3 (F := Ideal) x h z (ix1 n) = blkRel x h z n := by
  pointwise [k2_pay3]
  simp only [select_eq]
  rfl

/-- The reliability call's class numbers. -/
abbrev classes2 : IVec S8x4x1792 32 := iota .tc S8x4x1792 32 [1] iota_S8x4x1792_d1_w32

/-- The second head's cosines. -/
theorem rel_second (x : Vec Ideal S8x64x1792 .f32) (h : Vec Ideal S8x1792 .i32) (z : Vec Ideal S8x64x4 .f32)
    (n : Fin 1792) : k2_pay5 (F := Ideal) classes2 (k2_pay4 x) h z (ix1 n) = blkRel x h z n := by
  pointwise [k2_pay5, k2_pay4]
  simp only [select_eq]
  rfl

/-- The sum of the products of a row of cross entropies and the second head's cosines. -/
theorem dot_second (x : Vec Ideal S8x64x1792 .f32) (h : Vec Ideal S8x1792 .i32) (z : Vec Ideal S8x64x4 .f32) (r : Vec Ideal S1x1792 .f32) :
    k2_pay7 (F := Ideal) classes2 (k2_pay4 x) h z r = ∑ n : Fin 1792, r (ix2 0 n) * blkRel x h z n := by
  have e := rel_second x h z
  unfold k2_pay7
  generalize k2_pay5 (F := Ideal) classes2 (k2_pay4 x) h z = v at e
  pointwise
  exact Finset.sum_congr rfl fun n _ => congrArg _ (e n)

/-- The sum of the second head's cosines. -/
theorem total_second (x : Vec Ideal S8x64x1792 .f32) (h : Vec Ideal S8x1792 .i32) (z : Vec Ideal S8x64x4 .f32) :
    k2_pay8 (F := Ideal) classes2 (k2_pay4 x) h z (ix2 0 0) = ∑ n : Fin 1792, blkRel x h z n := by
  have e := rel_second x h z
  unfold k2_pay8
  generalize k2_pay5 (F := Ideal) classes2 (k2_pay4 x) h z = v at e
  pointwise
  exact Finset.sum_congr rfl fun n _ => e n

/-- Four numbers in the first four of a row's lanes, zero in the others. -/
def lanes (p q r s : EReal) (j : Fin 128) : EReal :=
  (if j.val = 0 then p else 0) + (if j.val = 1 then q else 0) + (if j.val = 2 then r else 0) + (if j.val = 3 then s else 0)

/-- A lane's number as a word. -/
theorem lane_eq (j : Fin 128) (k : ℕ) (hk : k < 4) : (BitVec.ofNat 32 j.val = BitVec.ofNat 32 k) ↔ j.val = k := by
  constructor
  · intro h
    have := congrArg BitVec.toNat h
    simp only [BitVec.toNat_ofNat] at this
    omega
  · intro h
    rw [h]

/-- A block's four sums: the second head's cosines weighted by the first head's row and alone, and the other way round. -/
def blkSums (x y : Vec Ideal S8x64x1792 .f32) (h h' : Vec Ideal S8x1792 .i32) (z z' : Vec Ideal S8x64x4 .f32) (r r' : Vec Ideal S1x1792 .f32)
    (j : Fin 128) : EReal :=
  lanes (∑ n, r (ix2 0 n) * blkRel y h' z' n) (∑ n, blkRel y h' z' n) (∑ n, r' (ix2 0 n) * blkRel x h z n) (∑ n, blkRel x h z n) j

/-- A grid point's contribution to the four sums. -/
theorem acc_at (x y : Vec Ideal S8x64x1792 .f32) (h h' : Vec Ideal S8x1792 .i32) (z z' : Vec Ideal S8x64x4 .f32) (r r' : Vec Ideal S1x1792 .f32)
    (o : Vec Ideal S1x128 .f32) (j : Fin 128) :
    k2_pay1 (F := Ideal) (k2_pay3 x h z) (k2_pay6 r') (k2_pay7 classes2 (k2_pay4 y) h' z' r) (k2_pay8 classes2 (k2_pay4 y) h' z') o (ix2 0 j)
      = o (ix2 0 j) + blkSums x y h h' z z' r r' j := by
  have e1 := rel_first x h z
  have e2 := dot_second y h' z' r
  have e3 := total_second y h' z'
  have e4 : ∀ n : Fin 1792, k2_pay6 (F := Ideal) r' (ix1 n) = r' (ix2 0 n) := fun n => by pointwise [k2_pay6]
  generalize k2_pay3 (F := Ideal) x h z = v1 at e1
  generalize k2_pay7 (F := Ideal) classes2 (k2_pay4 y) h' z' r = v2 at e2
  generalize k2_pay8 (F := Ideal) classes2 (k2_pay4 y) h' z' = v3 at e3
  generalize k2_pay6 (F := Ideal) r' = v4 at e4
  pointwise [k2_pay1]
  simp only [select_eq, e1, e2, e3, e4, lane_eq j 0 (by decide), lane_eq j 1 (by decide), lane_eq j 2 (by decide), lane_eq j 3 (by decide)]
  rfl

end Cert.KernelValue

end
-- ==== Proof.Region2.lean ====
/-
  What the reliability call leaves in its array, at the contents `V` of the arrays when it starts.
-/
module

public import proofs.«01_k».proof.Proof.Cos
public import proofs.«01_k».proof.Proof.Gen.KernelIdeal.Frame
public import Idealize.ShloMosaic.Lib.Pipeline.ValueKit

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen Cert.Pixel

variable (V : (c : Dev nD) → (b : Ref sig .tc) → Buf (Elt Ideal) ((c : Thread nD τ).loc b)) (c : Dev nD)

/-- The block indices of the reliability call's windows. -/
theorem index2 : ∀ t : Fin cfg2.N, win2_0.index t = ![0, 0, t.val] ∧ win2_1.index t = ![0, 0, t.val]
    ∧ win2_2.index t = ![0, t.val] ∧ win2_3.index t = ![0, t.val] ∧ win2_4.index t = ![0, t.val] ∧ win2_5.index t = ![0, t.val]
    ∧ win2_6.index t = ![0, 0, 0] ∧ win2_7.index t = ![0, 0, 0] := by decide +kernel

/-- The last grid point of the reliability call. -/
abbrev last2 : Fin cfg2.N := ⟨27, by decide⟩

/-- The cosines of an array's pixel, summed over the images. -/
def relSum (x : Vec Ideal S8x64x50176 .f32) (h : Vec Ideal S8x50176 .i32) (z : Vec Ideal S8x64x4 .f32) (n : Fin 50176) : EReal :=
  ∑ b : Fin 8, cosOf (fun d : Fin 64 => x (ix3 b d n)) (fun d k => z (ix3 b d k)) (h (ix2 b n))

/-- The four sums of arrays: the second head's cosines weighted by the first head's row and alone, and the other way round. -/
def fourSums (x y : Vec Ideal S8x64x50176 .f32) (h h' : Vec Ideal S8x50176 .i32) (z z' : Vec Ideal S8x64x4 .f32) (r r' : Vec Ideal S1x50176 .f32)
    (j : Fin 128) : EReal :=
  lanes (∑ n, r (ix2 0 n) * relSum y h' z' n) (∑ n, relSum y h' z' n) (∑ n, r' (ix2 0 n) * relSum x h z n) (∑ n, relSum x h z n) j

/-- The cosines of a grid point, in the arrays. -/
theorem rel_blk (x : Vec Ideal S8x64x50176 .f32) (h : Vec Ideal S8x50176 .i32) (z : Vec Ideal S8x64x4 .f32)
    (x' : Vec Ideal S8x64x1792 .f32) (h' : Vec Ideal S8x1792 .i32) (z' : Vec Ideal S8x64x4 .f32) (n : Fin 1792) (n' : Fin 50176)
    (ex : ∀ (b : Fin 8) (d : Fin 64), x' (ix3 b d n) = x (ix3 b d n')) (eh : ∀ b : Fin 8, h' (ix2 b n) = h (ix2 b n'))
    (ez : ∀ (b : Fin 8) (d : Fin 64) (k : Fin 4), z' (ix3 b d k) = z (ix3 b d k)) : blkRel x' h' z' n = relSum x h z n' := by
  unfold blkRel relSum
  refine Finset.sum_congr rfl fun b _ => ?_
  simp only [ex, eh, ez]

/-- The first head's cosines at a grid point. -/
theorem rel_blk0 (t : Fin cfg2.N) (n : Fin 1792) (n' : Fin 50176) (hn : (n' : ℕ) = t.val * 1792 + n) :
    blkRel (iblk2 V c 0 t) (iblk2 V c 2 t) (iblk2 V c 6 t) n = relSum (V c main_v2) (V c main_v4_2) (V c main_v14) n' := by
  obtain ⟨e0, _, e2, _, _, _, e6, _⟩ := index2 t
  refine rel_blk _ _ _ _ _ _ n n' (fun b d => ?_) (fun b => ?_) (fun b d k => ?_) <;> blk_ext [iblk2, e0, e2, e6]

/-- The second head's cosines at a grid point. -/
theorem rel_blk1 (t : Fin cfg2.N) (n : Fin 1792) (n' : Fin 50176) (hn : (n' : ℕ) = t.val * 1792 + n) :
    blkRel (iblk2 V c 1 t) (iblk2 V c 3 t) (iblk2 V c 7 t) n = relSum (V c main_v3) (V c main_v4_3) (V c main_v23) n' := by
  obtain ⟨_, e1, _, e3, _, _, _, e7⟩ := index2 t
  refine rel_blk _ _ _ _ _ _ n n' (fun b d => ?_) (fun b => ?_) (fun b d k => ?_) <;> blk_ext [iblk2, e1, e3, e7]

/-- The first head's row of cross entropies at a grid point. -/
theorem ce_blk0 (t : Fin cfg2.N) (n : Fin 1792) (n' : Fin 50176) (hn : (n' : ℕ) = t.val * 1792 + n) :
    iblk2 V c 4 t (ix2 0 n) = V c main_v4_4 (ix2 0 n') := by
  obtain ⟨_, _, _, _, e4, _, _, _⟩ := index2 t
  blk_ext [iblk2, e4]

/-- The second head's row of cross entropies at a grid point. -/
theorem ce_blk1 (t : Fin cfg2.N) (n : Fin 1792) (n' : Fin 50176) (hn : (n' : ℕ) = t.val * 1792 + n) :
    iblk2 V c 5 t (ix2 0 n) = V c main_v4_5 (ix2 0 n') := by
  obtain ⟨_, _, _, _, _, e5, _, _⟩ := index2 t
  blk_ext [iblk2, e5]

/-- Sums of rows of four lanes. -/
theorem sum_lanes {ι : Type} [Fintype ι] (p q r s : ι → EReal) (j : Fin 128) :
    ∑ t, lanes (p t) (q t) (r t) (s t) j = lanes (∑ t, p t) (∑ t, q t) (∑ t, r t) (∑ t, s t) j := by
  unfold lanes
  simp only [Finset.sum_add_distrib]
  congr 1; · congr 1; · congr 1 <;> (split <;> simp)
             · split <;> simp
  · split <;> simp

/-- Rows of equal lanes. -/
theorem lanes_congr {p q r s p' q' r' s' : EReal} (hp : p = p') (hq : q = q') (hr : r = r') (hs : s = s') (j : Fin 128) :
    lanes p q r s j = lanes p' q' r' s' j := by
  subst hp hq hr hs
  rfl

/-- What the block of four sums holds after the last grid point. -/
theorem outs2_8 (j : Fin 128) : (outsAt2 V c last2.val last2.isLt) (ix2 0 j)
    = fourSums (V c main_v2) (V c main_v3) (V c main_v4_2) (V c main_v4_3) (V c main_v14) (V c main_v23) (V c main_v4_4) (V c main_v4_5) j := by
  rw [Pipeline.eq_sum_fin_of_reset_step_apply_last (fun n h => outsAt2 V c n h) 28 (fun _ => (0 : EReal))
      (fun t j => blkSums (iblk2 V c 0 t) (iblk2 V c 1 t) (iblk2 V c 2 t) (iblk2 V c 3 t) (iblk2 V c 6 t) (iblk2 V c 7 t) (iblk2 V c 4 t) (iblk2 V c 5 t) (j 1))
      (fun t h j => by
        rw [outsAt2_A V c t h]; frame_out
        obtain ⟨l, rfl⟩ : ∃ l : Fin 128, j = ix2 0 l := ⟨j 1, (eq_ix2 j).trans (by congr 1; exact Subsingleton.elim (α := Fin 1) _ _)⟩
        exact (acc_at _ _ _ _ _ _ _ _ _ l).trans (congrArg (· + _) (Ideal.ofBits_zero .f32)))
      (fun t h j => by
        rw [outsAt2_B V c t h]; frame_out
        obtain ⟨l, rfl⟩ : ∃ l : Fin 128, j = ix2 0 l := ⟨j 1, (eq_ix2 j).trans (by congr 1; exact Subsingleton.elim (α := Fin 1) _ _)⟩
        exact acc_at _ _ _ _ _ _ _ _ _ l)
      (le_of_eq N_2) last2 rfl (ix2 0 j), zero_add]
  show (∑ t : Fin cfg2.N, blkSums (iblk2 V c 0 t) (iblk2 V c 1 t) (iblk2 V c 2 t) (iblk2 V c 3 t) (iblk2 V c 6 t) (iblk2 V c 7 t) (iblk2 V c 4 t) (iblk2 V c 5 t) j) = _
  unfold blkSums fourSums
  rw [sum_lanes]
  refine lanes_congr (Fin.sum_mul_add_congr (S := cfg2.N) (n := 1792) (fun t n hl => ?_) (by decide))
    (Fin.sum_mul_add_congr (S := cfg2.N) (n := 1792) (fun t n hl => ?_) (by decide))
    (Fin.sum_mul_add_congr (S := cfg2.N) (n := 1792) (fun t n hl => ?_) (by decide))
    (Fin.sum_mul_add_congr (S := cfg2.N) (n := 1792) (fun t n hl => ?_) (by decide)) j
  · exact congrArg₂ (· * ·) (ce_blk0 V c t n ⟨_, hl⟩ rfl) (rel_blk1 V c t n ⟨_, hl⟩ rfl)
  · exact rel_blk1 V c t n ⟨_, hl⟩ rfl
  · exact congrArg₂ (· * ·) (ce_blk1 V c t n ⟨_, hl⟩ rfl) (rel_blk0 V c t n ⟨_, hl⟩ rfl)
  · exact rel_blk0 V c t n ⟨_, hl⟩ rfl

/-- The four sums, in the array's first four lanes. -/
theorem arr2_8 (j : Fin 128) : ((dat2 V c).arrAt 8 cfg2.N : Vec Ideal S1x128 .f32) (ix2 0 j)
    = fourSums (V c main_v2) (V c main_v3) (V c main_v4_2) (V c main_v4_3) (V c main_v14) (V c main_v23) (V c main_v4_4) (V c main_v4_5) j := by
  refine Eq.trans (congrFun ((dat2 V c).arrAt_eq_of_after_last 8 last2 (by decide +kernel) (outsAt2 V c last2.val last2.isLt) fun j => ?_) (ix2 0 j)) (outs2_8 V c j)
  rw [after2_8]
  rfl

end Cert.KernelValue

end
-- ==== Proof.KernelResult.lean ====
/-
  The kernel's result as a function of its arguments: the calls' arrays and the host's operations between them, put together.
-/
module

public import proofs.«01_k».proof.Proof.Spec
public import proofs.«01_k».proof.Proof.Region0
public import proofs.«01_k».proof.Proof.Region1
public import proofs.«01_k».proof.Proof.Region2
public import Idealize.ShloMosaic.Lib.StableHlo.ReadAt

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen Cert.Pixel

variable (m : (ℓ : Loc nD τ sig) → Buf (Elt Ideal) ℓ) (ρ : Dev nD → PrngReg) (c : Dev nD)

/-- Logits by image, pixel and class, the pixels in one row. -/
abbrev logitsOf (x : Vec Ideal S8x4x224x224 .f32) (b : Fin 8) (n : Fin 50176) (k : Fin 4) : EReal :=
  x (ix4 b k ⟨n / 224, by omega⟩ ⟨n % 224, by omega⟩)

/-- Features by image, feature and pixel, the pixels in one row. -/
abbrev featuresOf (x : Vec Ideal S8x64x224x224 .f32) (b : Fin 8) (d : Fin 64) (n : Fin 50176) : EReal :=
  x (ix4 b d ⟨n / 224, by omega⟩ ⟨n % 224, by omega⟩)

/-- Weighted sums of arrays that hold given features, confidences and classes. -/
theorem sumsOf_eq (x : Vec Ideal S8x64x50176 .f32) (p : Vec Ideal S8x50176 .f32) (h : Vec Ideal S8x50176 .i32) (b : Fin 8) (d : Fin 64) (k : Fin 4)
    (x' p' : Fin 50176 → EReal) (h' : Fin 50176 → BitVec 32) (ex : ∀ n, x (ix3 b d n) = x' n) (ep : ∀ n, p (ix2 b n) = p' n)
    (eh : ∀ n, h (ix2 b n) = h' n) : sumsOf x p h b d k = wsum x' p' h' (BitVec.ofNat 32 k) := by
  obtain rfl : x' = fun n => x (ix3 b d n) := funext fun n => (ex n).symm
  obtain rfl : p' = fun n => p (ix2 b n) := funext fun n => (ep n).symm
  obtain rfl : h' = fun n => h (ix2 b n) := funext fun n => (eh n).symm
  rfl

/-- The four sums of arrays whose rows and cosines are given. -/
theorem fourSums_eq (x y : Vec Ideal S8x64x50176 .f32) (h h' : Vec Ideal S8x50176 .i32) (z z' : Vec Ideal S8x64x4 .f32) (r r' : Vec Ideal S1x50176 .f32)
    (j : Fin 128) (R R' C C' : Fin 50176 → EReal) (eR : ∀ n, relSum x h z n = R n) (eR' : ∀ n, relSum y h' z' n = R' n)
    (eC : ∀ n, r (ix2 0 n) = C n) (eC' : ∀ n, r' (ix2 0 n) = C' n) :
    fourSums x y h h' z z' r r' j = lanes (∑ n, C n * R' n) (∑ n, R' n) (∑ n, C' n * R n) (∑ n, R n) j := by
  obtain rfl : R = fun n => relSum x h z n := funext fun n => (eR n).symm
  obtain rfl : R' = fun n => relSum y h' z' n := funext fun n => (eR' n).symm
  obtain rfl : C = fun n => r (ix2 0 n) := funext fun n => (eC n).symm
  obtain rfl : C' = fun n => r' (ix2 0 n) := funext fun n => (eC' n).symm
  rfl

/-- The first four lanes of a row of four numbers. -/
theorem lanes_read (p q r s : EReal) : lanes p q r s 0 = p ∧ lanes p q r s 1 = q ∧ lanes p q r s 2 = r ∧ lanes p q r s 3 = s := by
  simp [lanes]

/-- The first head's logits where the routing call starts. -/
theorem entry_v0 (b : Fin 8) (n : Fin 50176) :
    rowLogits (V1 m ρ c main_v0) b n = logitsOf (m ((c : Thread nD τ).loc main_arg0)) b n := by
  funext k
  show (W1 m ρ c (Proc.devRef .tc main_v0) : Vec Ideal S8x4x50176 .f32) (ix3 b k n) = _
  unfold W1
  after_reads_at

/-- The second head's logits where the routing call starts. -/
theorem entry_v1 (b : Fin 8) (n : Fin 50176) :
    rowLogits (V1 m ρ c main_v1) b n = logitsOf (m ((c : Thread nD τ).loc main_arg1)) b n := by
  funext k
  show (W1 m ρ c (Proc.devRef .tc main_v1) : Vec Ideal S8x4x50176 .f32) (ix3 b k n) = _
  unfold W1
  after_reads_at

/-- The first head's features, in one row of pixels. -/
theorem entry_v2 (b : Fin 8) (d : Fin 64) (n : Fin 50176) :
    (W1 m ρ c (Proc.devRef .tc main_v2) : Vec Ideal S8x64x50176 .f32) (ix3 b d n) = featuresOf (m ((c : Thread nD τ).loc main_arg2)) b d n := by
  unfold W1
  after_reads_at

/-- The second head's features, in one row of pixels. -/
theorem entry_v3 (b : Fin 8) (d : Fin 64) (n : Fin 50176) :
    (W1 m ρ c (Proc.devRef .tc main_v3) : Vec Ideal S8x64x50176 .f32) (ix3 b d n) = featuresOf (m ((c : Thread nD τ).loc main_arg3)) b d n := by
  unfold W1
  after_reads_at

/-- The host's operations between the centres call and the reliability call leave what they don't write. -/
theorem kept (r : Ref sig .tc) (h7 : r ∉ hostOps2_3_W) (h6 : r ∉ hostOps2_2_W) (h5 : r ∉ hostOps2_1_W) (h4 : r ∉ hostOps2_W) :
    W7 m ρ c (Proc.devRef .tc r) = W3 m ρ c (Proc.devRef .tc r) := by
  rw [W7_of m ρ c r h7, W6_of m ρ c r h6, W5_of m ρ c r h5, W4_of m ρ c r h4]

/-- A centre of the first head, of the sums and counts. -/
theorem exit_v14 (b : Fin 8) (d : Fin 64) (k : Fin 4) :
    (W7 m ρ c (Proc.devRef .tc main_v14) : Vec Ideal S8x64x4 .f32) (ix3 b d k)
      = (if (0 : EReal) < (W3 m ρ c (Proc.devRef .tc main_v5_2) : Vec Ideal S8x4 .f32) (ix2 b k)
        then Ideal.div ((W3 m ρ c (Proc.devRef .tc main_v5_0) : Vec Ideal S8x64x4 .f32) (ix3 b d k))
          (max ((W3 m ρ c (Proc.devRef .tc main_v5_2) : Vec Ideal S8x4 .f32) (ix2 b k) : EReal) 1) else 0 : EReal) := by
  rw [W7_of m ρ c main_v14 (by decide), W6_of m ρ c main_v14 (by decide)]
  unfold W5 W4
  after_reads_at
  exact if_congr Iff.rfl rfl (Ideal.ofBits_zero .f32)

/-- A centre of the second head, of the sums and counts. -/
theorem exit_v23 (b : Fin 8) (d : Fin 64) (k : Fin 4) :
    (W7 m ρ c (Proc.devRef .tc main_v23) : Vec Ideal S8x64x4 .f32) (ix3 b d k)
      = (if (0 : EReal) < (W3 m ρ c (Proc.devRef .tc main_v5_3) : Vec Ideal S8x4 .f32) (ix2 b k)
        then Ideal.div ((W3 m ρ c (Proc.devRef .tc main_v5_1) : Vec Ideal S8x64x4 .f32) (ix3 b d k))
          (max ((W3 m ρ c (Proc.devRef .tc main_v5_3) : Vec Ideal S8x4 .f32) (ix2 b k) : EReal) 1) else 0 : EReal) := by
  rw [← W4_of m ρ c main_v5_3 (by decide), ← W4_of m ρ c main_v5_1 (by decide), ← W5_of m ρ c main_v5_3 (by decide), ← W5_of m ρ c main_v5_1 (by decide)]
  unfold W7 W6
  after_reads_at
  exact if_congr Iff.rfl rfl (Ideal.ofBits_zero .f32)

/-- The classes, confidences and rows of cross entropies that the routing call leaves. -/
theorem routed :
    W2 m ρ c (Proc.devRef .tc main_v4_0) = (fun i : S8x50176.Idx => conf (logitsOf (m ((c : Thread nD τ).loc main_arg0)) (i 0) (i 1)) : Vec Ideal S8x50176 .f32)
    ∧ W2 m ρ c (Proc.devRef .tc main_v4_1) = (fun i : S8x50176.Idx => conf (logitsOf (m ((c : Thread nD τ).loc main_arg1)) (i 0) (i 1)) : Vec Ideal S8x50176 .f32)
    ∧ W2 m ρ c (Proc.devRef .tc main_v4_2) = (fun i : S8x50176.Idx => hard (logitsOf (m ((c : Thread nD τ).loc main_arg0)) (i 0) (i 1)) : Vec Ideal S8x50176 .i32)
    ∧ W2 m ρ c (Proc.devRef .tc main_v4_3) = (fun i : S8x50176.Idx => hard (logitsOf (m ((c : Thread nD τ).loc main_arg1)) (i 0) (i 1)) : Vec Ideal S8x50176 .i32)
    ∧ W2 m ρ c (Proc.devRef .tc main_v4_4) = (fun i : S1x50176.Idx => ceRow (logitsOf (m ((c : Thread nD τ).loc main_arg0))) (logitsOf (m ((c : Thread nD τ).loc main_arg0))) (logitsOf (m ((c : Thread nD τ).loc main_arg1))) (i 1) : Vec Ideal S1x50176 .f32)
    ∧ W2 m ρ c (Proc.devRef .tc main_v4_5) = (fun i : S1x50176.Idx => ceRow (logitsOf (m ((c : Thread nD τ).loc main_arg1))) (logitsOf (m ((c : Thread nD τ).loc main_arg0))) (logitsOf (m ((c : Thread nD τ).loc main_arg1))) (i 1) : Vec Ideal S1x50176 .f32) := by
  refine ⟨?_, ?_, ?_, ?_, ?_, ?_⟩
  · exact ((W2_arr m ρ c 2).trans (arr0_2 (V1 m ρ) c)).trans (funext fun i => congrArg conf (entry_v0 m ρ c (i 0) (i 1)))
  · exact ((W2_arr m ρ c 3).trans (arr0_3 (V1 m ρ) c)).trans (funext fun i => congrArg conf (entry_v1 m ρ c (i 0) (i 1)))
  · exact ((W2_arr m ρ c 4).trans (arr0_4 (V1 m ρ) c)).trans (funext fun i => congrArg hard (entry_v0 m ρ c (i 0) (i 1)))
  · exact ((W2_arr m ρ c 5).trans (arr0_5 (V1 m ρ) c)).trans (funext fun i => congrArg hard (entry_v1 m ρ c (i 0) (i 1)))
  · exact ((W2_arr m ρ c 6).trans (arr0_6 (V1 m ρ) c)).trans (funext fun i => Finset.sum_congr rfl fun b _ =>
      congrArg₂ (fun p q => ce p (pseudo p q)) (entry_v0 m ρ c b (i 1)) (entry_v1 m ρ c b (i 1)))
  · exact ((W2_arr m ρ c 7).trans (arr0_7 (V1 m ρ) c)).trans (funext fun i => Finset.sum_congr rfl fun b _ =>
      congrArg₂ (fun p q => ce q (pseudo p q)) (entry_v0 m ρ c b (i 1)) (entry_v1 m ρ c b (i 1)))

/-- The features where the centres call starts, and where the reliability call starts. -/
theorem features_v2 (b : Fin 8) (d : Fin 64) (n : Fin 50176) :
    (W2 m ρ c (Proc.devRef .tc main_v2) : Vec Ideal S8x64x50176 .f32) (ix3 b d n) = featuresOf (m ((c : Thread nD τ).loc main_arg2)) b d n := by
  rw [W2_of m ρ c main_v2 (by decide)]
  exact entry_v2 m ρ c b d n

theorem features_v3 (b : Fin 8) (d : Fin 64) (n : Fin 50176) :
    (W2 m ρ c (Proc.devRef .tc main_v3) : Vec Ideal S8x64x50176 .f32) (ix3 b d n) = featuresOf (m ((c : Thread nD τ).loc main_arg3)) b d n := by
  rw [W2_of m ρ c main_v3 (by decide)]
  exact entry_v3 m ρ c b d n

/-- The kernel's result, of the four sums that the reliability call leaves. -/
theorem exit_v35 (i : S_.Idx) :
    (W9 m ρ c (Proc.devRef .tc main_v35) : Vec Ideal S_ .f32) i
      = (Ideal.div ((W8 m ρ c (Proc.devRef .tc main_v24) : Vec Ideal S1x128 .f32) (ix2 0 0)) ((W8 m ρ c (Proc.devRef .tc main_v24) : Vec Ideal S1x128 .f32) (ix2 0 1))
        + Ideal.div ((W8 m ρ c (Proc.devRef .tc main_v24) : Vec Ideal S1x128 .f32) (ix2 0 2)) ((W8 m ρ c (Proc.devRef .tc main_v24) : Vec Ideal S1x128 .f32) (ix2 0 3)) : EReal) := by
  obtain rfl : i = ix0 := Subsingleton.elim _ _
  unfold W9
  after_reads_at

/-- The first head's centres where the reliability call starts. -/
theorem centre_first (b : Fin 8) (d : Fin 64) (k : Fin 4) :
    (W7 m ρ c (Proc.devRef .tc main_v14) : Vec Ideal S8x64x4 .f32) (ix3 b d k) = centre (featuresOf (m ((c : Thread nD τ).loc main_arg2))) (logitsOf (m ((c : Thread nD τ).loc main_arg0))) b d k := by
  have hs : (W3 m ρ c (Proc.devRef .tc main_v5_0) : Vec Ideal S8x64x4 .f32) (ix3 b d k)
      = wsum (fun n => (featuresOf (m ((c : Thread nD τ).loc main_arg2))) b d n) (fun n => conf ((logitsOf (m ((c : Thread nD τ).loc main_arg0))) b n)) (fun n => hard ((logitsOf (m ((c : Thread nD τ).loc main_arg0))) b n)) (BitVec.ofNat 32 k) := by
    refine (congrFun ((W3_arr m ρ c 6).trans (arr1_6 (V2 m ρ) c)) (ix3 b d k)).trans ?_
    have e1 := (routed m ρ c).1
    have e2 := (routed m ρ c).2.2.1
    have e3 := features_v2 m ρ c b d
    show sumsOf (W2 m ρ c (Proc.devRef .tc main_v2)) (W2 m ρ c (Proc.devRef .tc main_v4_0)) (W2 m ρ c (Proc.devRef .tc main_v4_2)) b d k = _
    rw [e1, e2]
    exact sumsOf_eq _ _ _ b d k _ _ _ e3 (fun _ => rfl) (fun _ => rfl)
  have hc : (W3 m ρ c (Proc.devRef .tc main_v5_2) : Vec Ideal S8x4 .f32) (ix2 b k) = count (fun n => hard ((logitsOf (m ((c : Thread nD τ).loc main_arg0))) b n)) (BitVec.ofNat 32 k) := by
    refine (congrFun ((W3_arr m ρ c 8).trans (arr1_8 (V2 m ρ) c)) (ix2 b k)).trans ?_
    have e2 := (routed m ρ c).2.2.1
    show countOf (W2 m ρ c (Proc.devRef .tc main_v4_2)) b k = _
    rw [e2]
    rfl
  rw [exit_v14, hs, hc]
  rfl

/-- The first head's cosines where the reliability call starts. -/
theorem rel_first_row (n : Fin 50176) :
    relSum (V7 m ρ c main_v2) (V7 m ρ c main_v4_2) (V7 m ρ c main_v14) n = relRow (featuresOf (m ((c : Thread nD τ).loc main_arg2))) (logitsOf (m ((c : Thread nD τ).loc main_arg0))) n := by
  have e1 : ∀ (b : Fin 8) (d : Fin 64), (W7 m ρ c (Proc.devRef .tc main_v2) : Vec Ideal S8x64x50176 .f32) (ix3 b d n) = (featuresOf (m ((c : Thread nD τ).loc main_arg2))) b d n := fun b d => by
    rw [kept m ρ c main_v2 (by decide) (by decide) (by decide) (by decide), W3_of m ρ c main_v2 (by decide)]
    exact features_v2 m ρ c b d n
  have e2 : ∀ b : Fin 8, (W7 m ρ c (Proc.devRef .tc main_v4_2) : Vec Ideal S8x50176 .i32) (ix2 b n) = hard ((logitsOf (m ((c : Thread nD τ).loc main_arg0))) b n) := fun b => by
    rw [kept m ρ c main_v4_2 (by decide) (by decide) (by decide) (by decide), W3_of m ρ c main_v4_2 (by decide), (routed m ρ c).2.2.1]
    rfl
  have e3 := centre_first m ρ c
  unfold relSum relRow
  refine Finset.sum_congr rfl fun b _ => ?_
  unfold rel
  show cosOf (fun d => (W7 m ρ c (Proc.devRef .tc main_v2) : Vec Ideal S8x64x50176 .f32) (ix3 b d n))
    (fun d k => (W7 m ρ c (Proc.devRef .tc main_v14) : Vec Ideal S8x64x4 .f32) (ix3 b d k)) ((W7 m ρ c (Proc.devRef .tc main_v4_2) : Vec Ideal S8x50176 .i32) (ix2 b n)) = _
  simp only [e1, e2, e3]

/-- The second head's centres where the reliability call starts. -/
theorem centre_second (b : Fin 8) (d : Fin 64) (k : Fin 4) :
    (W7 m ρ c (Proc.devRef .tc main_v23) : Vec Ideal S8x64x4 .f32) (ix3 b d k) = centre (featuresOf (m ((c : Thread nD τ).loc main_arg3))) (logitsOf (m ((c : Thread nD τ).loc main_arg1))) b d k := by
  have hs : (W3 m ρ c (Proc.devRef .tc main_v5_1) : Vec Ideal S8x64x4 .f32) (ix3 b d k)
      = wsum (fun n => (featuresOf (m ((c : Thread nD τ).loc main_arg3))) b d n) (fun n => conf ((logitsOf (m ((c : Thread nD τ).loc main_arg1))) b n)) (fun n => hard ((logitsOf (m ((c : Thread nD τ).loc main_arg1))) b n)) (BitVec.ofNat 32 k) := by
    refine (congrFun ((W3_arr m ρ c 7).trans (arr1_7 (V2 m ρ) c)) (ix3 b d k)).trans ?_
    have e1 := (routed m ρ c).2.1
    have e2 := (routed m ρ c).2.2.2.1
    have e3 := features_v3 m ρ c b d
    show sumsOf (W2 m ρ c (Proc.devRef .tc main_v3)) (W2 m ρ c (Proc.devRef .tc main_v4_1)) (W2 m ρ c (Proc.devRef .tc main_v4_3)) b d k = _
    rw [e1, e2]
    exact sumsOf_eq _ _ _ b d k _ _ _ e3 (fun _ => rfl) (fun _ => rfl)
  have hc : (W3 m ρ c (Proc.devRef .tc main_v5_3) : Vec Ideal S8x4 .f32) (ix2 b k) = count (fun n => hard ((logitsOf (m ((c : Thread nD τ).loc main_arg1))) b n)) (BitVec.ofNat 32 k) := by
    refine (congrFun ((W3_arr m ρ c 9).trans (arr1_9 (V2 m ρ) c)) (ix2 b k)).trans ?_
    have e2 := (routed m ρ c).2.2.2.1
    show countOf (W2 m ρ c (Proc.devRef .tc main_v4_3)) b k = _
    rw [e2]
    rfl
  rw [exit_v23, hs, hc]
  rfl

/-- The second head's cosines where the reliability call starts. -/
theorem rel_second_row (n : Fin 50176) :
    relSum (V7 m ρ c main_v3) (V7 m ρ c main_v4_3) (V7 m ρ c main_v23) n = relRow (featuresOf (m ((c : Thread nD τ).loc main_arg3))) (logitsOf (m ((c : Thread nD τ).loc main_arg1))) n := by
  have e1 : ∀ (b : Fin 8) (d : Fin 64), (W7 m ρ c (Proc.devRef .tc main_v3) : Vec Ideal S8x64x50176 .f32) (ix3 b d n) = (featuresOf (m ((c : Thread nD τ).loc main_arg3))) b d n := fun b d => by
    rw [kept m ρ c main_v3 (by decide) (by decide) (by decide) (by decide), W3_of m ρ c main_v3 (by decide)]
    exact features_v3 m ρ c b d n
  have e2 : ∀ b : Fin 8, (W7 m ρ c (Proc.devRef .tc main_v4_3) : Vec Ideal S8x50176 .i32) (ix2 b n) = hard ((logitsOf (m ((c : Thread nD τ).loc main_arg1))) b n) := fun b => by
    rw [kept m ρ c main_v4_3 (by decide) (by decide) (by decide) (by decide), W3_of m ρ c main_v4_3 (by decide), (routed m ρ c).2.2.2.1]
    rfl
  have e3 := centre_second m ρ c
  unfold relSum relRow
  refine Finset.sum_congr rfl fun b _ => ?_
  unfold rel
  show cosOf (fun d => (W7 m ρ c (Proc.devRef .tc main_v3) : Vec Ideal S8x64x50176 .f32) (ix3 b d n))
    (fun d k => (W7 m ρ c (Proc.devRef .tc main_v23) : Vec Ideal S8x64x4 .f32) (ix3 b d k)) ((W7 m ρ c (Proc.devRef .tc main_v4_3) : Vec Ideal S8x50176 .i32) (ix2 b n)) = _
  simp only [e1, e2, e3]

/-- The kernel's result is the loss of its arguments. -/
theorem result (i : S_.Idx) :
    (W9 m ρ c (Proc.devRef .tc main_v35) : Vec Ideal S_ .f32) i
      = loss (logitsOf (m ((c : Thread nD τ).loc main_arg0))) (logitsOf (m ((c : Thread nD τ).loc main_arg1)))
          (featuresOf (m ((c : Thread nD τ).loc main_arg2))) (featuresOf (m ((c : Thread nD τ).loc main_arg3))) := by
  have hr : ∀ (r r' : Vec Ideal S1x50176 .f32), r = (W7 m ρ c (Proc.devRef .tc main_v4_4) : Vec Ideal S1x50176 .f32) → r' = (W7 m ρ c (Proc.devRef .tc main_v4_5) : Vec Ideal S1x50176 .f32) →
      (∀ n, r (ix2 0 n) = ceRow (logitsOf (m ((c : Thread nD τ).loc main_arg0))) (logitsOf (m ((c : Thread nD τ).loc main_arg0))) (logitsOf (m ((c : Thread nD τ).loc main_arg1))) n) ∧ (∀ n, r' (ix2 0 n) = ceRow (logitsOf (m ((c : Thread nD τ).loc main_arg1))) (logitsOf (m ((c : Thread nD τ).loc main_arg0))) (logitsOf (m ((c : Thread nD τ).loc main_arg1))) n) := by
    rintro r r' rfl rfl
    rw [kept m ρ c main_v4_4 (by decide) (by decide) (by decide) (by decide), W3_of m ρ c main_v4_4 (by decide), (routed m ρ c).2.2.2.2.1,
      kept m ρ c main_v4_5 (by decide) (by decide) (by decide) (by decide), W3_of m ρ c main_v4_5 (by decide), (routed m ρ c).2.2.2.2.2]
    exact ⟨fun n => rfl, fun n => rfl⟩
  obtain ⟨h4, h5⟩ := hr _ _ rfl rfl
  have hs : ∀ j : Fin 128, (W8 m ρ c (Proc.devRef .tc main_v24) : Vec Ideal S1x128 .f32) (ix2 0 j)
      = lanes (∑ n, ceRow (logitsOf (m ((c : Thread nD τ).loc main_arg0))) (logitsOf (m ((c : Thread nD τ).loc main_arg0))) (logitsOf (m ((c : Thread nD τ).loc main_arg1))) n * relRow (featuresOf (m ((c : Thread nD τ).loc main_arg3))) (logitsOf (m ((c : Thread nD τ).loc main_arg1))) n)
          (∑ n, relRow (featuresOf (m ((c : Thread nD τ).loc main_arg3))) (logitsOf (m ((c : Thread nD τ).loc main_arg1))) n)
          (∑ n, ceRow (logitsOf (m ((c : Thread nD τ).loc main_arg1))) (logitsOf (m ((c : Thread nD τ).loc main_arg0))) (logitsOf (m ((c : Thread nD τ).loc main_arg1))) n * relRow (featuresOf (m ((c : Thread nD τ).loc main_arg2))) (logitsOf (m ((c : Thread nD τ).loc main_arg0))) n)
          (∑ n, relRow (featuresOf (m ((c : Thread nD τ).loc main_arg2))) (logitsOf (m ((c : Thread nD τ).loc main_arg0))) n) j := fun j => by
    refine ((congrFun (W8_arr m ρ c 8) (ix2 0 j)).trans (arr2_8 (V7 m ρ) c j)).trans ?_
    exact fourSums_eq _ _ _ _ _ _ _ _ j _ _ _ _ (rel_first_row m ρ c) (rel_second_row m ρ c) h4 h5
  rw [exit_v35, hs, hs, hs, hs]
  obtain ⟨e0, e1, e2, e3⟩ := lanes_read (∑ n, ceRow (logitsOf (m ((c : Thread nD τ).loc main_arg0))) (logitsOf (m ((c : Thread nD τ).loc main_arg0))) (logitsOf (m ((c : Thread nD τ).loc main_arg1))) n * relRow (featuresOf (m ((c : Thread nD τ).loc main_arg3))) (logitsOf (m ((c : Thread nD τ).loc main_arg1))) n)
          (∑ n, relRow (featuresOf (m ((c : Thread nD τ).loc main_arg3))) (logitsOf (m ((c : Thread nD τ).loc main_arg1))) n)
          (∑ n, ceRow (logitsOf (m ((c : Thread nD τ).loc main_arg1))) (logitsOf (m ((c : Thread nD τ).loc main_arg0))) (logitsOf (m ((c : Thread nD τ).loc main_arg1))) n * relRow (featuresOf (m ((c : Thread nD τ).loc main_arg2))) (logitsOf (m ((c : Thread nD τ).loc main_arg0))) n)
          (∑ n, relRow (featuresOf (m ((c : Thread nD τ).loc main_arg2))) (logitsOf (m ((c : Thread nD τ).loc main_arg0))) n)
  rw [e0, e1, e2, e3]
  rfl

end Cert.KernelValue

end
-- ==== Proof.RefPixel.lean ====
/-
  What the reference computes of one pixel, equal to what the routing computes of it: the largest logit, the first class that
  attains it, the confidence and the cross entropy. Extended reals; no program appears here.
-/
module

public import proofs.«01_k».proof.Proof.Pixel

@[expose] public section

noncomputable section

namespace Cert.Pixel

open Idealize.ShloMosaic

/-- A fold over the four classes, written out. -/
theorem fold_four {α : Type} (op : α → α → α) [Std.Commutative op] [Std.Associative op] (e : α) (P : Fin 4 → α) :
    Finset.fold op e P Finset.univ = op (P 0) (op (P 1) (op (P 2) (op (P 3) e))) := by
  rw [show (Finset.univ : Finset (Fin 4)) = {0, 1, 2, 3} from rfl, Finset.fold_insert (by decide), Finset.fold_insert (by decide),
    Finset.fold_insert (by decide), Finset.fold_singleton]

/-- The largest of the four logits as a fold. -/
theorem fold_best (p : Fin 4 → EReal) : Finset.fold max ⊥ p Finset.univ = best p := by
  rw [fold_four, best]; simp only [max_bot_right, max_assoc]

theorem le_best (p : Fin 4 → EReal) (k : Fin 4) : p k ≤ best p := by
  rw [← fold_best]; exact Finset.le_fold_max (p k) |>.2 (Or.inr ⟨k, Finset.mem_univ k, le_rfl⟩)

/-- The winning class. -/
def hardF (p : Fin 4 → EReal) : Fin 4 :=
  if max (max (p 0) (p 1)) (p 2) < p 3 then 3 else if max (p 0) (p 1) < p 2 then 2 else if p 0 < p 1 then 1 else 0

theorem hard_eq (p : Fin 4 → EReal) : hard p = BitVec.ofNat 32 (hardF p).val := by
  unfold hard hardF; split_ifs <;> rfl

/-- The winning class attains the largest logit. -/
theorem best_eq (p : Fin 4 → EReal) : best p = p (hardF p) := by
  unfold best hardF
  split_ifs with h3 h2 h1
  · exact max_eq_right h3.le
  · rw [max_eq_left (not_lt.1 h3), max_eq_right h2.le]
  · rw [max_eq_left (not_lt.1 h3), max_eq_left (not_lt.1 h2), max_eq_right h1.le]
  · rw [max_eq_left (not_lt.1 h3), max_eq_left (not_lt.1 h2), max_eq_left (not_lt.1 h1)]

/-- A class before the winning one does not attain the largest logit. -/
theorem lt_best_of_lt (p : Fin 4 → EReal) (k : Fin 4) (hk : k < hardF p) : p k ≠ best p := by
  rw [best_eq]
  have key : p k < p (hardF p) := by
    revert hk
    unfold hardF
    split_ifs with h3 h2 h1
    · rw [max_lt_iff, max_lt_iff] at h3
      intro hk; fin_cases k
      exacts [h3.1.1, h3.1.2, h3.2, absurd hk (by decide)]
    · rw [max_lt_iff] at h2
      intro hk; fin_cases k
      exacts [h2.1, h2.2, absurd hk (by decide), absurd hk (by decide)]
    · intro hk; fin_cases k
      exacts [h1, absurd hk (by decide), absurd hk (by decide), absurd hk (by decide)]
    · intro hk; exact absurd hk (by simp)
  exact key.ne

/-- The smallest of the classes that attain the largest logit is the winning class. -/
theorem fold_hard (p : Fin 4 → EReal) :
    Finset.fold IntOp.minsi 2147483647#32 (fun k : Fin 4 => if p k = best p then BitVec.ofNat 32 k.val else 4#32) Finset.univ
      = hard p := by
  rw [fold_four, hard_eq]
  have hb : p (hardF p) = best p := (best_eq p).symm
  have hlt := lt_best_of_lt p
  generalize hardF p = j at hb hlt
  match j, hb, hlt with
  | 0, hb, _ => rw [if_pos hb]; split_ifs <;> rfl
  | 1, hb, hlt => rw [if_neg (hlt 0 (by decide)), if_pos hb]; split_ifs <;> rfl
  | 2, hb, hlt => rw [if_neg (hlt 0 (by decide)), if_neg (hlt 1 (by decide)), if_pos hb]; split_ifs <;> rfl
  | 3, hb, hlt => rw [if_neg (hlt 0 (by decide)), if_neg (hlt 1 (by decide)), if_neg (hlt 2 (by decide)), if_pos hb]; rfl

/-- The class that the two heads settle on. -/
def pseudoF (p q : Fin 4 → EReal) : Fin 4 := if conf q ≤ conf p then hardF p else hardF q

theorem pseudo_eq (p q : Fin 4 → EReal) : pseudo p q = BitVec.ofNat 32 (pseudoF p q).val := by
  unfold pseudo pseudoF; split_ifs <;> exact hard_eq _

theorem pick_eq (p : Fin 4 → EReal) (k : Fin 4) : pick p (BitVec.ofNat 32 k.val) = p k := by
  fin_cases k <;> rfl

/-- Finite logits are four real numbers. -/
theorem Finite.lift {p : Fin 4 → EReal} (hp : Finite p) : ∃ r : Fin 4 → ℝ, p = fun k => (r k : EReal) :=
  ⟨fun k => (p k).toReal, funext fun k => (EReal.coe_toReal (hp k).2 (hp k).1).symm⟩

/-- Of real logits: the largest is a real number, and the denominator is a real number that is at least one. -/
theorem Finite.real {p : Fin 4 → EReal} (hp : Finite p) :
    ∃ (r : Fin 4 → ℝ) (s : ℝ), p = (fun k => (r k : EReal)) ∧ best p = ((r (hardF p) : ℝ) : EReal)
      ∧ den p = ((s : ℝ) : EReal) ∧ 1 ≤ s ∧ ∀ k, Ideal.exp (p k - best p) = ((Real.exp (r k - r (hardF p)) : ℝ) : EReal) := by
  obtain ⟨r, hr⟩ := hp.lift
  have hb : best p = ((r (hardF p) : ℝ) : EReal) := by rw [best_eq]; exact congrFun hr _
  have he : ∀ k, Ideal.exp (p k - best p) = ((Real.exp (r k - r (hardF p)) : ℝ) : EReal) := fun k => by
    rw [hb, congrFun hr k, ← EReal.coe_sub, Ideal.exp_coe]
  refine ⟨r, Real.exp (r 0 - r (hardF p)) + Real.exp (r 1 - r (hardF p)) + Real.exp (r 2 - r (hardF p))
    + Real.exp (r 3 - r (hardF p)), hr, hb, ?_, ?_, he⟩
  · unfold den; rw [he, he, he, he]; simp only [EReal.coe_add]
  · have h1 : Real.exp (r (hardF p) - r (hardF p)) = 1 := by rw [sub_self, Real.exp_zero]
    have h0 := Real.exp_pos (r 0 - r (hardF p))
    have h1' := Real.exp_pos (r 1 - r (hardF p))
    have h2 := Real.exp_pos (r 2 - r (hardF p))
    have h3 := Real.exp_pos (r 3 - r (hardF p))
    generalize hj : hardF p = j at *
    fin_cases j <;> (simp only [Fin.zero_eta, Fin.mk_one, Fin.reduceFinMk] at *; linarith)

/-- The largest softmax probability is one over the denominator. -/
theorem fold_conf {p : Fin 4 → EReal} (hp : Finite p) :
    Finset.fold max ⊥ (fun k : Fin 4 => Ideal.div (Ideal.exp (p k - best p)) (∑ j : Fin 4, Ideal.exp (p j - best p)))
      Finset.univ = conf p := by
  obtain ⟨r, s, hr, hb, hs, h1, he⟩ := hp.real
  have hsum : (∑ j : Fin 4, Ideal.exp (p j - best p)) = (s : EReal) := by rw [Fin.sum_univ_four]; exact hs
  have hs0 : s ≠ 0 := by linarith
  have hdiv : ∀ x : ℝ, Ideal.div (x : EReal) (s : EReal) = ((x / s : ℝ) : EReal) := fun x => by
    rw [Ideal.div, if_neg (by exact_mod_cast hs0), ← EReal.coe_inv, ← EReal.coe_mul, div_eq_mul_inv]
  have hle : ∀ k, r k ≤ r (hardF p) := fun k => by
    have := le_best p k
    rw [hb, congrFun hr k] at this; exact_mod_cast this
  rw [hsum, conf, hs, show (1 : EReal) = ((1 : ℝ) : EReal) from rfl, hdiv]
  apply le_antisymm
  · refine Finset.fold_max_le _ |>.2 ⟨bot_le, fun k _ => ?_⟩
    rw [he, hdiv]
    have : Real.exp (r k - r (hardF p)) ≤ 1 := Real.exp_le_one_iff.2 (by linarith [hle k])
    exact_mod_cast div_le_div_of_nonneg_right this (by linarith)
  · refine Finset.le_fold_max _ |>.2 (Or.inr ⟨hardF p, Finset.mem_univ _, ?_⟩)
    rw [he, hdiv, sub_self, Real.exp_zero]

/-- The negated log probability of a class is the cross entropy against it. -/
theorem neg_logp {p : Fin 4 → EReal} (hp : Finite p) (k : Fin 4) :
    -((p k - best p) - Ideal.log (∑ j : Fin 4, Ideal.exp (p j - best p))) = ce p (BitVec.ofNat 32 k.val) := by
  obtain ⟨r, s, hr, hb, hs, h1, he⟩ := hp.real
  have hsum : (∑ j : Fin 4, Ideal.exp (p j - best p)) = den p := by rw [Fin.sum_univ_four]; rfl
  rw [hsum, ce, lse, pick_eq, hs, hb, congrFun hr k, Ideal.log_coe, if_neg (by linarith)]
  norm_cast
  ring

/-- A cross entropy of finite logits is a number that is at least zero. -/
theorem ce_real {p : Fin 4 → EReal} (hp : Finite p) (k : Fin 4) :
    ∃ x : ℝ, 0 ≤ x ∧ ce p (BitVec.ofNat 32 k.val) = (x : EReal) := by
  obtain ⟨r, s, hr, hb, hs, h1, he⟩ := hp.real
  have hle : r k ≤ r (hardF p) := by
    have := le_best p k
    rw [hb, congrFun hr k] at this; exact_mod_cast this
  refine ⟨r (hardF p) + Real.log s - r k, by linarith [Real.log_nonneg h1], ?_⟩
  rw [ce, lse, pick_eq, hs, hb, congrFun hr k, Ideal.log_coe, if_neg (by linarith)]
  norm_cast

end Cert.Pixel

end
-- ==== Proof.RefConst.lean ====
/-
  The constants of the reference that are not zero, as extended reals.
-/
module

public import Idealize.ShloMosaic.PureOps
public import Idealize.ShloMosaic.PureOps.Ideal
public import Idealize.ShloMosaic.PureOps.Ideal.Laws

@[expose] public section

noncomputable section

namespace Cert.Pixel

open Idealize.ShloMosaic

/-- Minus infinity's bits. -/
theorem ofBits_negInf : Ideal.ofBits .f32 0xFF800000#32 = ⊥ := by
  show Ideal.ieee 8 23 4286578688#32 = ⊥
  unfold Ideal.ieee
  rw [if_pos (by decide), if_pos (by decide), if_pos (by decide)]

/-- Plus infinity's bits. -/
theorem ofBits_posInf : Ideal.ofBits .f32 0x7F800000#32 = ⊤ := by
  show Ideal.ieee 8 23 2139095040#32 = ⊤
  unfold Ideal.ieee
  rw [if_pos (by decide), if_pos (by decide), if_neg (by decide)]

end Cert.Pixel

end
-- ==== Proof.Gathers.lean ====
/-
  The two gathers of the reference read at an index: the class centre of a pixel, and a pixel's log probability of a class.
-/
module

public import proofs.«01_k».proof.ReferenceIdeal
public import Idealize.ShloMosaic.Lib.ValueIdx
public import Idealize.ShloMosaic.Lib.Pointwise

@[expose] public section

set_option maxRecDepth 16384

noncomputable section

namespace Cert.RefValue

open Idealize.ShloMosaic
open Cert.ReferenceIdeal

variable [Cert.ReferenceIdeal.Facts] {α : Type}

/-- The gather of class centres: entry `(b, d, n)` of the result is the operand's entry `(b, d, k)`, where `k < 4` is the index
    held at `(b, n, 0)`. -/
theorem gather_centre (x : S8x64x4.Idx → α) (idx : IVec S8x50176x1 32) (b : Fin 8) (d : Fin 64) (n : Fin 50176) (k : Fin 4)
    (hk : idx (ix3 b n (0 : Fin 1)) = BitVec.ofNat 32 k.val) :
    Host.gather gather_S8x64x4_S8x50176x1_S8x64x50176_1_2_0_0_2_2_1641 x idx (ix3 b d n) = x (ix3 b d k) := by
  generalize hD : gather_S8x64x4_S8x50176x1_S8x64x50176_1_2_0_0_2_2_1641 = D
  unfold Host.gather
  refine congrArg x (funext fun a => Fin.ext ?_)
  show D.start (ix3 b d n) idx a + D.batchCoord (ix3 b d n) a + D.offCoord (ix3 b d n) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  subst hD
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (gather_S8x64x4_S8x50176x1_S8x64x50176_1_2_0_0_2_2_1641).operandBatchingDims from
      List.mem_singleton.mpr rfl)]
    rfl
  · have h0 : (1 : Fin 3) ∉ (gather_S8x64x4_S8x50176x1_S8x64x50176_1_2_0_0_2_2_1641).startIndexMap :=
      show (1 : Fin 3) ∉ ([2] : List (Fin 3)) by decide
    rw [GatherDims.batchCoord_eq_zero _ _ _ (show (1 : Fin 3) ∉ ([0] : List (Fin 3)) by decide)]
    unfold GatherDims.start GatherDims.offCoord
    rw [dif_neg h0]
    rw [dif_pos ((GatherDims.mem_sKept _ _).2 ⟨show (1 : Fin 3) ∉ ([2] : List (Fin 3)) by decide,
      show (1 : Fin 3) ∉ ([0] : List (Fin 3)) by decide⟩)]
    simp only [Nat.zero_add, Nat.add_zero]
    rfl
  · rw [GatherDims.batchCoord_eq_zero _ _ _ (show (2 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (gather_S8x64x4_S8x50176x1_S8x64x50176_1_2_0_0_2_2_1641).startIndexMap from List.mem_singleton.mpr rfl)]
    have hsi : (gather_S8x64x4_S8x50176x1_S8x64x50176_1_2_0_0_2_2_1641).siIdx (ix3 b d n)
        ⟨List.idxOf (2 : Fin 3) (gather_S8x64x4_S8x50176x1_S8x64x50176_1_2_0_0_2_2_1641).startIndexMap,
          List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi, hk]
    show min (BitVec.ofNat 32 k.val).toInt.toNat 3 = k.val
    fin_cases k <;> rfl

/-- The gather of log probabilities: entry `(b, 0, h, w)` of the result is the operand's entry `(b, k, h, w)`, where `k < 4` is
    the index held at `(b, 0, h, w, 0)`. -/
theorem gather_logp (x : S8x4x224x224.Idx → α) (idx : IVec S8x1x224x224x1 32) (b : Fin 8) (h w : Fin 224) (k : Fin 4)
    (hk : idx (ix5 b (0 : Fin 1) h w (0 : Fin 1)) = BitVec.ofNat 32 k.val) :
    Host.gather gather_S8x4x224x224_S8x1x224x224x1_S8x1x224x224_n_1_023_023_1_4_1111 x idx (ix4 b (0 : Fin 1) h w)
      = x (ix4 b k h w) := by
  generalize hD : gather_S8x4x224x224_S8x1x224x224x1_S8x1x224x224_n_1_023_023_1_4_1111 = D
  unfold Host.gather
  refine congrArg x (funext fun a => Fin.ext ?_)
  show D.start (ix4 b (0 : Fin 1) h w) idx a + D.batchCoord (ix4 b (0 : Fin 1) h w) a + D.offCoord (ix4 b (0 : Fin 1) h w) a = _
  have ha : a = 1 ∨ a ∈ ([0, 2, 3] : List (Fin 4)) := by
    match a with
    | ⟨0, _⟩ => exact Or.inr (show (0 : Fin 4) ∈ ([0, 2, 3] : List (Fin 4)) by decide)
    | ⟨1, _⟩ => exact Or.inl rfl
    | ⟨2, _⟩ => exact Or.inr (show (2 : Fin 4) ∈ ([0, 2, 3] : List (Fin 4)) by decide)
    | ⟨3, _⟩ => exact Or.inr (show (3 : Fin 4) ∈ ([0, 2, 3] : List (Fin 4)) by decide)
  subst hD
  rcases ha with rfl | ha
  · rw [GatherDims.batchCoord_eq_zero _ _ _ (show (1 : Fin 4) ∉ ([0, 2, 3] : List (Fin 4)) by decide),
      GatherDims.offCoord_eq_zero _ _ _ (fun h => ((GatherDims.mem_sKept _ _).mp h).1 (List.mem_singleton.mpr rfl))]
    simp only [Nat.add_zero]
    unfold GatherDims.start
    rw [dif_pos (show (1 : Fin 4) ∈ (gather_S8x4x224x224_S8x1x224x224x1_S8x1x224x224_n_1_023_023_1_4_1111).startIndexMap from List.mem_singleton.mpr rfl)]
    have hsi : (gather_S8x4x224x224_S8x1x224x224x1_S8x1x224x224_n_1_023_023_1_4_1111).siIdx (ix4 b (0 : Fin 1) h w)
        ⟨List.idxOf (1 : Fin 4) (gather_S8x4x224x224_S8x1x224x224x1_S8x1x224x224_n_1_023_023_1_4_1111).startIndexMap,
          List.idxOf_lt_length_iff.2 (List.mem_singleton.mpr rfl)⟩ = ix5 b (0 : Fin 1) h w (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hsi, hk]
    show min (BitVec.ofNat 32 k.val).toInt.toNat 3 = k.val
    fin_cases k <;> rfl
  · rw [GatherDims.start_batching _ _ _ _ ha,
      GatherDims.offCoord_eq_zero _ _ _ (fun h => ((GatherDims.mem_sKept _ _).mp h).2 ha)]
    simp only [Nat.zero_add, Nat.add_zero]
    unfold GatherDims.batchCoord
    rw [dif_pos (show a ∈ (gather_S8x4x224x224_S8x1x224x224x1_S8x1x224x224_n_1_023_023_1_4_1111).operandBatchingDims from ha)]
    simp only [List.mem_cons, List.not_mem_nil, or_false] at ha
    rcases ha with rfl | rfl | rfl <;> rfl

end Cert.RefValue

end
-- ==== Proof.RefRouting.lean ====
/-
  The reference's routing of a pixel: the winning class, the confidence, and the class that the two heads settle on, each in the routing's own terms.
-/
module

public import proofs.«01_k».proof.Proof.RefPixel
public import proofs.«01_k».proof.Proof.RefConst
public import proofs.«01_k».proof.Proof.Gathers
public import proofs.«01_k».proof.Proof.Gen.ReferenceIdeal.Read
public import Idealize.ShloMosaic.Lib.Pointwise
public import Idealize.ShloMosaic.Lib.Tactic

@[expose] public section

set_option maxRecDepth 16384

noncomputable section

namespace Cert.RefValue

open Idealize.ShloMosaic Idealize.SL.Sem
open Cert.ReferenceIdeal Cert.ReferenceIdeal.Gen Cert.ReferenceIdeal.Read Cert.Pixel

/-- The four logits of a pixel. -/
abbrev at4 (x : Vec Ideal S8x4x224x224 .f32) (b : Fin 8) (h w : Fin 224) : Fin 4 → EReal := fun k => x (ix4 b k h w)

variable (x y : Vec Ideal S8x4x224x224 .f32) (b : Fin 8) (h w : Fin 224)

/-- The maxima start from minus infinity. -/
theorem negInf (i : S_.Idx) : (val_main_cst (F := Ideal) i : EReal) = ⊥ := ofBits_negInf

/-- The largest logit. -/
theorem v1_at : (val_main_v1 (F := Ideal) x (ix3 b h w) : EReal) = best (at4 x b h w) := by
  have e : (val_main_v1 (F := Ideal) x (ix3 b h w) : EReal)
      = Finset.fold max (val_main_cst (F := Ideal) (Shape.Idx.first h_S_) : EReal) (at4 x b h w) Finset.univ := by
    pointwise [val_main_v1]
  rw [e, negInf, fold_best]

/-- The first class that attains the largest logit. -/
theorem v6_at : val_main_v6 (F := Ideal) x (ix3 b h w) = hard (at4 x b h w) := by
  have e : val_main_v6 (F := Ideal) x (ix3 b h w)
      = Finset.fold IntOp.minsi (val_main_c_0 (F := Ideal) (Shape.Idx.first h_S_))
        (fun k => val_main_v5 (F := Ideal) x (ix4 b k h w)) Finset.univ := by
    pointwise [val_main_v6]
  have e5 : ∀ k : Fin 4, val_main_v5 (F := Ideal) x (ix4 b k h w)
      = if (x (ix4 b k h w) : EReal) = (val_main_v1 (F := Ideal) x (ix3 b h w) : EReal)
        then val_main_v0 (F := Ideal) (ix4 b k h w) else val_main_call0_v1 (F := Ideal) (ix4 b k h w) := by
    intro k
    pointwise [val_main_v5, val_main_v4, val_main_v3, val_main_v2]
  rw [e]
  simp only [e5, v1_at]
  exact fold_hard _

/-- The softmax's maximum is the maximum. -/
theorem v14_eq : val_main_v14 (F := Ideal) x = val_main_v1 (F := Ideal) x := rfl

/-- The softmax's maximum starts from minus infinity. -/
theorem v15_at : (val_main_v15 (F := Ideal) (ix3 b h w) : EReal) = ⊥ := by
  rw [val_main_v15_apply]
  exact ofBits_negInf

/-- The larger of two numbers. -/
theorem maximumf_eq (p q : EReal) : (FloatOps.maximumf (F := Ideal) (φ := .f32) p q : EReal) = max p q := rfl

/-- A selection by a comparison of two numbers. -/
theorem select_oge (p q : EReal) (c d : BitVec 32) :
    Scalar.select (FloatOps.cmpf (F := Ideal) (φ := .f32) .oge p q) c d = if q ≤ p then c else d := by
  show (if BitVec.ofBool (decide (q ≤ p)) = 1#1 then c else d) = _
  by_cases hq : q ≤ p
  · simp [hq]
  · simp [hq]

/-- The softmax subtracts the largest logit. -/
theorem v16_at : (val_main_v16 (F := Ideal) x (ix3 b h w) : EReal) = best (at4 x b h w) := by
  rw [val_main_v16_apply, maximumf_eq, v14_eq, v1_at, v15_at, max_bot_left]

/-- The softmax's exponentials. -/
theorem v20_at (k : Fin 4) : (val_main_v20 (F := Ideal) x (ix4 b k h w) : EReal)
    = Ideal.exp (at4 x b h w k - best (at4 x b h w)) := by
  have e : (val_main_v20 (F := Ideal) x (ix4 b k h w) : EReal)
      = Ideal.exp ((x (ix4 b k h w) : EReal) - (val_main_v16 (F := Ideal) x (ix3 b h w) : EReal)) := by
    pointwise [val_main_v20, val_main_v19, val_main_v18, val_main_v17]
  rw [e, v16_at]

/-- The softmax's denominator. -/
theorem v21_at : (val_main_v21 (F := Ideal) x (ix3 b h w) : EReal) = ∑ j : Fin 4, Ideal.exp (at4 x b h w j - best (at4 x b h w)) := by
  have e : (val_main_v21 (F := Ideal) x (ix3 b h w) : EReal) = (val_main_cst_6 (F := Ideal) (Shape.Idx.first h_S_) : EReal)
      + ∑ j : Fin 4, (val_main_v20 (F := Ideal) x (ix4 b j h w) : EReal) := by
    pointwise [val_main_v21]
  rw [e, show (val_main_cst_6 (F := Ideal) (Shape.Idx.first h_S_) : EReal) = 0 from Ideal.ofBits_zero .f32, zero_add]
  simp only [v20_at]

/-- The softmax. -/
theorem v24_at (k : Fin 4) : (val_main_v24 (F := Ideal) x (ix4 b k h w) : EReal)
    = Ideal.div (Ideal.exp (at4 x b h w k - best (at4 x b h w)))
      (∑ j : Fin 4, Ideal.exp (at4 x b h w j - best (at4 x b h w))) := by
  have e : (val_main_v24 (F := Ideal) x (ix4 b k h w) : EReal)
      = Ideal.div (val_main_v20 (F := Ideal) x (ix4 b k h w) : EReal) (val_main_v21 (F := Ideal) x (ix3 b h w) : EReal) := by
    pointwise [val_main_v24, val_main_v23, val_main_v22]
  rw [e, v20_at, v21_at]

/-- The confidence. -/
theorem v36_at (hx : Finite (at4 x b h w)) : (val_main_v36 (F := Ideal) x (ix3 b h w) : EReal) = conf (at4 x b h w) := by
  have e : (val_main_v36 (F := Ideal) x (ix3 b h w) : EReal)
      = Finset.fold max (val_main_cst_10 (F := Ideal) (Shape.Idx.first h_S_) : EReal)
        (fun k => (val_main_v24 (F := Ideal) x (ix4 b k h w) : EReal)) Finset.univ := by
    pointwise [val_main_v36]
  rw [e]
  simp only [v24_at]
  rw [show (val_main_cst_10 (F := Ideal) (Shape.Idx.first h_S_) : EReal) = ⊥ from negInf _]
  exact fold_conf hx

/-- The auxiliary head's confidence and class are computed as the main head's. -/
theorem v37_eq : val_main_v37 (F := Ideal) y = val_main_v36 (F := Ideal) y := rfl
theorem v13_eq : val_main_v13 (F := Ideal) y = val_main_v6 (F := Ideal) y := rfl

/-- The class that the two heads settle on. -/
theorem v39_at (hx : Finite (at4 x b h w)) (hy : Finite (at4 y b h w)) :
    val_main_v39 (F := Ideal) x y (ix3 b h w) = pseudo (at4 x b h w) (at4 y b h w) := by
  rw [val_main_v39_apply, val_main_v38_apply, select_oge, v37_eq, v13_eq, v36_at x b h w hx, v36_at y b h w hy, v6_at, v6_at]
  unfold pseudo
  rfl

end Cert.RefValue

end
-- ==== Proof.RefCosine.lean ====
/-
  The cosine of a pixel's features and its class's centre, with the centre the quotient of the weighted sum by the number of the
  class's pixels, and with the class's centre picked by its index: the same as the cosine of the specification. Extended reals; no
  program appears here.
-/
module

public import proofs.«01_k».proof.Proof.Spec
public import proofs.«01_k».proof.Proof.RefPixel

@[expose] public section

noncomputable section

namespace Cert.Pixel

open Idealize.ShloMosaic

variable {B N D : ℕ}

theorem ofNat_inj (j k : Fin 4) : BitVec.ofNat 32 j.val = BitVec.ofNat 32 k.val ↔ j = k := by
  revert j k; decide

theorem ind_nonneg (h k : BitVec 32) : 0 ≤ ind h k := by
  unfold ind; split_ifs
  · exact zero_le_one
  · exact le_rfl

/-- The class of a pixel has at least one pixel. -/
theorem one_le_count (h : Fin N → BitVec 32) (n : Fin N) : 1 ≤ count h (h n) := by
  have e : (1 : EReal) = ind (h n) (h n) := (if_pos rfl).symm
  rw [e]
  exact Finset.single_le_sum (f := fun i => ind (h i) (h n)) (fun i _ => ind_nonneg _ _) (Finset.mem_univ n)

/-- The quotient of the weighted sum by the number of pixels is the centre, for the class of some pixel. -/
theorem centre_eq (f : Fin B → Fin D → Fin N → EReal) (p : Fin B → Fin N → Fin 4 → EReal) (b : Fin B) (d : Fin D) (n : Fin N) :
    Ideal.div (∑ i, f b d i * conf (p b i) * ind (hard (p b i)) (BitVec.ofNat 32 (hardF (p b n)).val))
        (∑ i, ind (hard (p b i)) (BitVec.ofNat 32 (hardF (p b n)).val))
      = centre f p b d (hardF (p b n)) := by
  have h1 : 1 ≤ count (fun i => hard (p b i)) (BitVec.ofNat 32 (hardF (p b n)).val) := by
    have := one_le_count (fun i => hard (p b i)) n
    rwa [hard_eq (p b n)] at this
  rw [centre, if_pos (lt_of_lt_of_le zero_lt_one h1), max_eq_left h1]
  refine congrArg₂ Ideal.div (Finset.sum_congr rfl fun i _ => ?_) rfl
  rw [mul_assoc, mul_comm (conf (p b i))]

/-- A sum over the classes that keeps one class alone. -/
theorem sum_pick (j : Fin 4) (A : Fin 4 → EReal) :
    (∑ k : Fin 4, if BitVec.ofNat 32 j.val = BitVec.ofNat 32 k.val then A k else 0) = A j := by
  simp only [ofNat_inj, Finset.sum_ite_eq, Finset.mem_univ, if_true]

/-- The cosine with the centre picked by its index. -/
theorem rel_eq (f : Fin B → Fin D → Fin N → EReal) (p : Fin B → Fin N → Fin 4 → EReal) (b : Fin B) (n : Fin N) :
    Ideal.div (∑ d, f b d n * centre f p b d (hardF (p b n)))
        (max (Ideal.sqrt (∑ d, f b d n * f b d n)
            * Ideal.sqrt (∑ d, centre f p b d (hardF (p b n)) * centre f p b d (hardF (p b n))))
          (Ideal.ofBits .f32 841731191#32))
      = rel f p b n := by
  unfold rel cosOf
  rw [hard_eq (p b n), sum_pick, sum_pick]
  simp only [mul_comm (f b _ n) (centre f p b _ _)]

end Cert.Pixel

end
-- ==== Proof.RefIndex.lean ====
/-
  The reference's gathers wrap a negative index; a class is never negative.
-/
module

public import Idealize.ShloMosaic.PureOps

@[expose] public section

namespace Cert.RefValue

open Idealize.ShloMosaic

/-- An index that is a class is not wrapped. -/
theorem wrap_class (k : Fin 4) (c : BitVec 32) : Scalar.select (IntOp.cmpi .slt (BitVec.ofNat 32 k.val) 0#32) c (BitVec.ofNat 32 k.val)
    = BitVec.ofNat 32 k.val := by
  fin_cases k <;> rfl

end Cert.RefValue

end
-- ==== Proof.RefRel.lean ====
/-
  The reference's cosines: its class centres, the centre that it gathers for a pixel, and the cosine of the pixel's features and
  that centre, which is the specification's.
-/
module

public import proofs.«01_k».proof.Proof.RefRouting
public import proofs.«01_k».proof.Proof.RefCosine
public import proofs.«01_k».proof.Proof.RefIndex

@[expose] public section

set_option maxRecDepth 16384

noncomputable section

namespace Cert.RefValue

open Idealize.ShloMosaic Idealize.SL.Sem
open Cert.ReferenceIdeal Cert.ReferenceIdeal.Gen Cert.ReferenceIdeal.Read Cert.Pixel

/-- A pixel's row. -/
abbrev rowOf (n : Fin 50176) : Fin 224 := ⟨n.val / 224, by omega⟩

/-- A pixel's column. -/
abbrev colOf (n : Fin 50176) : Fin 224 := ⟨n.val % 224, by omega⟩

/-- The logits by image, pixel and class. -/
abbrev logits (x : Vec Ideal S8x4x224x224 .f32) : Fin 8 → Fin 50176 → Fin 4 → EReal := fun b n => at4 x b (rowOf n) (colOf n)

/-- The features by image, feature and pixel. -/
abbrev features (f : Vec Ideal S8x64x224x224 .f32) : Fin 8 → Fin 64 → Fin 50176 → EReal :=
  fun b d n => f (ix4 b d (rowOf n) (colOf n))

variable (x : Vec Ideal S8x4x224x224 .f32) (f : Vec Ideal S8x64x224x224 .f32) (b : Fin 8) (n : Fin 50176)

/-- The features in rows of pixels. -/
theorem v40_at (d : Fin 64) : (val_main_v40 (F := Ideal) f (ix3 b d n) : EReal) = features f b d n := by
  pointwise [val_main_v40]

/-- The winning classes in rows of pixels. -/
theorem v42_at : val_main_v42 (F := Ideal) x (ix2 b n) = hard (logits x b n) := by
  have e : val_main_v42 (F := Ideal) x (ix2 b n) = val_main_v6 (F := Ideal) x (ix3 b (rowOf n) (colOf n)) := by
    pointwise [val_main_v42]
  rw [e, v6_at]

/-- The confidences in rows of pixels. -/
theorem v41_at (hx : Finite (logits x b n)) : (val_main_v41 (F := Ideal) x (ix2 b n) : EReal) = conf (logits x b n) := by
  have e : (val_main_v41 (F := Ideal) x (ix2 b n) : EReal) = val_main_v36 (F := Ideal) x (ix3 b (rowOf n) (colOf n)) := by
    pointwise [val_main_v41]
  rw [e, v36_at _ _ _ _ hx]

/-- A comparison's word as a number. -/
theorem ind_word (c k : BitVec 32) : (FloatOps.uitofp (F := Ideal) .f32 (IntOp.cmpi .eq c k) : EReal) = ind c k := by
  show (((BitVec.ofBool (c == k)).toNat : ℝ) : EReal) = _
  unfold ind
  by_cases h : c = k
  · rw [if_pos h, beq_iff_eq.2 h]; simp
  · rw [if_neg h, beq_eq_false_iff_ne.2 h]; simp

/-- The classes' indicators. -/
theorem v46_at (k : Fin 4) : (val_main_v46 (F := Ideal) x (ix3 b n k) : EReal) = ind (hard (logits x b n)) (BitVec.ofNat 32 k.val) := by
  have e : (val_main_v46 (F := Ideal) x (ix3 b n k) : EReal)
      = FloatOps.uitofp (F := Ideal) .f32 (IntOp.cmpi .eq (val_main_v42 (F := Ideal) x (ix2 b n)) (BitVec.ofNat 32 k.val)) := by
    pointwise [val_main_v46, val_main_call3_v0, val_main_call3_v1, val_main_call3_v2, val_main_call3_v3, val_main_call3_v4]
  rw [e, v42_at, ind_word]

/-- The product of two numbers. -/
theorem mulf_eq (p q : EReal) : (FloatOps.mulf (F := Ideal) (φ := .f32) p q : EReal) = p * q := rfl

/-- The features, weighted by the confidences. -/
theorem v45_at (hx : Finite (logits x b n)) (d : Fin 64) : (val_main_v45 (F := Ideal) x f (ix3 b d n) : EReal)
    = features f b d n * conf (logits x b n) := by
  have e : (val_main_v44 (F := Ideal) x (ix3 b d n) : EReal) = (val_main_v41 (F := Ideal) x (ix2 b n) : EReal) := by
    pointwise [val_main_v44, val_main_v43]
  rw [val_main_v45_apply, mulf_eq, e, v40_at, v41_at x b n hx]

/-- The weighted sums of the features over the pixels of a class. -/
theorem v47_at (hx : ∀ n, Finite (logits x b n)) (d : Fin 64) (k : Fin 4) : (val_main_v47 (F := Ideal) x f (ix3 b d k) : EReal)
    = ∑ i, features f b d i * conf (logits x b i) * ind (hard (logits x b i)) (BitVec.ofNat 32 k.val) := by
  have e : (val_main_v47 (F := Ideal) x f (ix3 b d k) : EReal)
      = ∑ i : Fin 50176, (val_main_v45 (F := Ideal) x f (ix3 b d i) : EReal) * (val_main_v46 (F := Ideal) x (ix3 b i k) : EReal) := by
    pointwise [val_main_v47]
  rw [e]
  exact Finset.sum_congr rfl fun i _ => congrArg₂ (· * ·) (v45_at x f b i (hx i) d) (v46_at x b i k)

/-- The number of pixels of a class. -/
theorem v48_at (k : Fin 4) : (val_main_v48 (F := Ideal) x (ix2 b k) : EReal)
    = ∑ i, ind (hard (logits x b i)) (BitVec.ofNat 32 k.val) := by
  have e : (val_main_v48 (F := Ideal) x (ix2 b k) : EReal) = (val_main_cst_12 (F := Ideal) (Shape.Idx.first h_S_) : EReal)
      + ∑ i : Fin 50176, (val_main_v46 (F := Ideal) x (ix3 b i k) : EReal) := by
    pointwise [val_main_v48]
  rw [e, show (val_main_cst_12 (F := Ideal) (Shape.Idx.first h_S_) : EReal) = 0 from Ideal.ofBits_zero .f32, zero_add]
  simp only [v46_at]

/-- The class centres. -/
theorem v51_at (hx : ∀ n, Finite (logits x b n)) (d : Fin 64) (k : Fin 4) : (val_main_v51 (F := Ideal) x f (ix3 b d k) : EReal)
    = Ideal.div (∑ i, features f b d i * conf (logits x b i) * ind (hard (logits x b i)) (BitVec.ofNat 32 k.val))
        (∑ i, ind (hard (logits x b i)) (BitVec.ofNat 32 k.val)) := by
  have e : (val_main_v51 (F := Ideal) x f (ix3 b d k) : EReal)
      = Ideal.div (val_main_v47 (F := Ideal) x f (ix3 b d k) : EReal) (val_main_v48 (F := Ideal) x (ix2 b k) : EReal) := by
    pointwise [val_main_v51, val_main_v50, val_main_v49]
  rw [e, v47_at x f b hx, v48_at]

/-- The index of the gather of centres: the pixel's winning class. -/
theorem call4_v5_at : val_main_call4_v5 (F := Ideal) x (ix3 b n (0 : Fin 1)) = BitVec.ofNat 32 (hardF (logits x b n)).val := by
  have e : val_main_call4_v5 (F := Ideal) x (ix3 b n (0 : Fin 1))
      = Scalar.select (IntOp.cmpi .slt (val_main_v42 (F := Ideal) x (ix2 b n)) 0#32)
        (IntOp.addi (val_main_v42 (F := Ideal) x (ix2 b n)) 4#32) (val_main_v42 (F := Ideal) x (ix2 b n)) := by
    pointwise [val_main_call4_v5, val_main_call4_v4, val_main_call4_v3, val_main_call4_v2, val_main_call4_v1, val_main_call4_v0,
      val_main_call4_c, val_main_call4_c_0, val_main_v52]
  rw [e, v42_at, hard_eq, wrap_class]

/-- The gathered centre of a pixel. -/
theorem v53_at (hx : ∀ n, Finite (logits x b n)) (d : Fin 64) : (val_main_v53 (F := Ideal) x f (ix3 b d n) : EReal)
    = centre (features f) (logits x) b d (hardF (logits x b n)) := by
  have e : (val_main_v53 (F := Ideal) x f (ix3 b d n) : EReal) = val_main_v51 (F := Ideal) x f (ix3 b d (hardF (logits x b n))) :=
    gather_centre _ _ b d n _ (call4_v5_at x b n)
  rw [e, v51_at x f b hx, centre_eq]

/-- The reference's cosine of a pixel. -/
theorem v65_at (hx : ∀ n, Finite (logits x b n)) : (val_main_v65 (F := Ideal) x f (ix2 b n) : EReal)
    = rel (features f) (logits x) b n := by
  have e : (val_main_v65 (F := Ideal) x f (ix2 b n) : EReal)
      = Ideal.div ((val_main_cst_13 (F := Ideal) (Shape.Idx.first h_S_) : EReal)
          + ∑ d : Fin 64, (val_main_v40 (F := Ideal) f (ix3 b d n) : EReal) * (val_main_v53 (F := Ideal) x f (ix3 b d n) : EReal))
        (max (Ideal.sqrt ((val_main_cst_14 (F := Ideal) (Shape.Idx.first h_S_) : EReal)
              + ∑ d : Fin 64, (val_main_v40 (F := Ideal) f (ix3 b d n) : EReal) * (val_main_v40 (F := Ideal) f (ix3 b d n) : EReal))
            * Ideal.sqrt ((val_main_cst_15 (F := Ideal) (Shape.Idx.first h_S_) : EReal)
              + ∑ d : Fin 64, (val_main_v53 (F := Ideal) x f (ix3 b d n) : EReal) * (val_main_v53 (F := Ideal) x f (ix3 b d n) : EReal)))
          (Ideal.ofBits .f32 841731191#32)) := by
    pointwise [val_main_v65, val_main_v64, val_main_v63, val_main_cst_16, val_main_v62, val_main_v61, val_main_v60, val_main_v59,
      val_main_v58, val_main_v57, val_main_v56, val_main_v55, val_main_v54]
  rw [e, show (val_main_cst_13 (F := Ideal) (Shape.Idx.first h_S_) : EReal) = 0 from Ideal.ofBits_zero .f32,
    show (val_main_cst_14 (F := Ideal) (Shape.Idx.first h_S_) : EReal) = 0 from Ideal.ofBits_zero .f32,
    show (val_main_cst_15 (F := Ideal) (Shape.Idx.first h_S_) : EReal) = 0 from Ideal.ofBits_zero .f32]
  simp only [zero_add, v40_at, fun d => v53_at x f b n hx d]
  exact rel_eq _ _ _ _

end Cert.RefValue

end
-- ==== Proof.RefEntropy.lean ====
/-
  The reference's cross entropies of a pixel, each head's against the class that the two heads settle on.
-/
module

public import proofs.«01_k».proof.Proof.RefRouting
public import proofs.«01_k».proof.Proof.RefIndex

@[expose] public section

set_option maxRecDepth 16384

noncomputable section

namespace Cert.RefValue

open Idealize.ShloMosaic Idealize.SL.Sem
open Cert.ReferenceIdeal Cert.ReferenceIdeal.Gen Cert.ReferenceIdeal.Read Cert.Pixel

variable (x y : Vec Ideal S8x4x224x224 .f32) (b : Fin 8) (h w : Fin 224)

/-- The log softmax. -/
theorem v94_at (k : Fin 4) : (val_main_v94 (F := Ideal) x (ix4 b k h w) : EReal)
    = (at4 x b h w k - best (at4 x b h w)) - Ideal.log (∑ j : Fin 4, Ideal.exp (at4 x b h w j - best (at4 x b h w))) := by
  have e2 : (val_main_call7_v2 (F := Ideal) x (ix3 b h w) : EReal) = best (at4 x b h w) := v16_at x b h w
  have e5 : ∀ j : Fin 4, (val_main_call7_v5 (F := Ideal) x (ix4 b j h w) : EReal) = at4 x b h w j - best (at4 x b h w) := by
    intro j
    rw [← e2]
    pointwise [val_main_call7_v5, val_main_call7_v4, val_main_call7_v3]
  have e : (val_main_v94 (F := Ideal) x (ix4 b k h w) : EReal)
      = (val_main_call7_v5 (F := Ideal) x (ix4 b k h w) : EReal) - Ideal.log ((val_main_call7_cst_1 (F := Ideal) (Shape.Idx.first h_S_) : EReal)
        + ∑ j : Fin 4, Ideal.exp (val_main_call7_v5 (F := Ideal) x (ix4 b j h w) : EReal)) := by
    pointwise [val_main_v94, val_main_call7_v10, val_main_call7_v9, val_main_call7_v8, val_main_call7_v7, val_main_call7_v6]
  rw [e, show (val_main_call7_cst_1 (F := Ideal) (Shape.Idx.first h_S_) : EReal) = 0 from Ideal.ofBits_zero .f32, zero_add]
  simp only [e5]

/-- The index of the gathers of log probabilities: the class that the two heads settle on. -/
theorem call9_v5_at (hx : Finite (at4 x b h w)) (hy : Finite (at4 y b h w)) :
    val_main_call9_v5 (F := Ideal) x y (ix5 b (0 : Fin 1) h w (0 : Fin 1))
      = BitVec.ofNat 32 (pseudoF (at4 x b h w) (at4 y b h w)).val := by
  have e4 : val_main_call9_v4 (F := Ideal) x y (ix4 b (0 : Fin 1) h w)
      = Scalar.select (IntOp.cmpi .slt (val_main_v39 (F := Ideal) x y (ix3 b h w)) 0#32)
        (IntOp.addi (val_main_v39 (F := Ideal) x y (ix3 b h w)) 4#32) (val_main_v39 (F := Ideal) x y (ix3 b h w)) := by
    pointwise [val_main_call9_v4, val_main_call9_v3, val_main_call9_v2, val_main_call9_v1, val_main_call9_v0, val_main_call9_c,
      val_main_call9_c_0, val_main_v96]
  have e5 : val_main_call9_v5 (F := Ideal) x y (ix5 b (0 : Fin 1) h w (0 : Fin 1))
      = val_main_call9_v4 (F := Ideal) x y (ix4 b (0 : Fin 1) h w) := by
    pointwise [val_main_call9_v5]
  rw [e5, e4, v39_at x y b h w hx hy, pseudo_eq, wrap_class]

/-- The main head's cross entropy. -/
theorem v99_at (hx : Finite (at4 x b h w)) (hy : Finite (at4 y b h w)) :
    (val_main_v99 (F := Ideal) x y (ix3 b h w) : EReal) = ce (at4 x b h w) (pseudo (at4 x b h w) (at4 y b h w)) := by
  have e : (val_main_v99 (F := Ideal) x y (ix3 b h w) : EReal) = -(val_main_v97 (F := Ideal) x y (ix4 b (0 : Fin 1) h w) : EReal) := by
    pointwise [val_main_v99, val_main_v98]
  have e97 : (val_main_v97 (F := Ideal) x y (ix4 b (0 : Fin 1) h w) : EReal)
      = val_main_v94 (F := Ideal) x (ix4 b (pseudoF (at4 x b h w) (at4 y b h w)) h w) :=
    gather_logp _ _ b h w _ (call9_v5_at x y b h w hx hy)
  rw [e, e97, v94_at, neg_logp hx, pseudo_eq]

/-- The auxiliary head's cross entropy. -/
theorem v103_at (hx : Finite (at4 x b h w)) (hy : Finite (at4 y b h w)) :
    (val_main_v103 (F := Ideal) x y (ix3 b h w) : EReal) = ce (at4 y b h w) (pseudo (at4 x b h w) (at4 y b h w)) := by
  have e : (val_main_v103 (F := Ideal) x y (ix3 b h w) : EReal) = -(val_main_v101 (F := Ideal) x y (ix4 b (0 : Fin 1) h w) : EReal) := by
    pointwise [val_main_v103, val_main_v102]
  have e101 : (val_main_v101 (F := Ideal) x y (ix4 b (0 : Fin 1) h w) : EReal)
      = val_main_v94 (F := Ideal) y (ix4 b (pseudoF (at4 x b h w) (at4 y b h w)) h w) :=
    gather_logp _ _ b h w _ (call9_v5_at x y b h w hx hy)
  rw [e, e101, v94_at, neg_logp hy, pseudo_eq]

end Cert.RefValue

end
-- ==== Proof.RefLossSum.lean ====
/-
  The loss's sums over images, rows and columns, equal to the specification's sums over the pixels of a row. Extended reals; no
  program appears here.
-/
module

public import proofs.«01_k».proof.Proof.RefCosine
public import Idealize.ShloMosaic.Lib.Pipeline.ValueKit.Acc

@[expose] public section

noncomputable section

namespace Cert.Pixel

open Idealize.ShloMosaic

variable {B N D : ℕ}

/-- A sum of numbers that are at least zero, times a sum. -/
theorem sum_mul_sum (a r : Fin B → EReal) (ha : ∀ b, ∃ x : ℝ, 0 ≤ x ∧ a b = (x : EReal)) :
    (∑ b, a b) * (∑ b, r b) = ∑ b, ∑ b', a b' * r b := by
  have key : ∀ (s : Finset (Fin B)) (c : EReal), (∑ b ∈ s, a b) * c = ∑ b ∈ s, a b * c := by
    intro s c
    induction s using Finset.cons_induction with
    | empty => simp
    | cons b s hb ih =>
      have h0 : ∀ i, 0 ≤ a i := fun i => by obtain ⟨x, hx, e⟩ := ha i; rw [e]; exact_mod_cast hx
      rw [Finset.sum_cons, Finset.sum_cons, EReal.right_distrib_of_nonneg (h0 b) (Finset.sum_nonneg fun i _ => h0 i), ih]
  obtain ⟨A, hA, hA0⟩ : ∃ A : ℝ, (∑ b, a b) = (A : EReal) ∧ 0 ≤ A := by
    choose x hx0 hx using ha
    refine ⟨∑ b, x b, ?_, Finset.sum_nonneg fun b _ => hx0 b⟩
    have : ∀ s : Finset (Fin B), (∑ b ∈ s, a b) = ((∑ b ∈ s, x b : ℝ) : EReal) := by
      intro s
      induction s using Finset.cons_induction with
      | empty => simp
      | cons b s hb ih => rw [Finset.sum_cons, Finset.sum_cons, EReal.coe_add, ← hx b, ih]
    exact this _
  have left : ∀ s : Finset (Fin B), (A : EReal) * (∑ b ∈ s, r b) = ∑ b ∈ s, (A : EReal) * r b := by
    intro s
    induction s using Finset.cons_induction with
    | empty => simp
    | cons b s hb ih =>
      rw [Finset.sum_cons, Finset.sum_cons, EReal.left_distrib_of_nonneg_of_ne_top (by exact_mod_cast hA0) (EReal.coe_ne_top A), ih]
  rw [hA, left]
  refine Finset.sum_congr rfl fun b _ => ?_
  rw [← hA, key]

/-- The sum over images, rows and columns of a function of an image and a pixel, the pixels numbered row by row. -/
theorem sum_pixels {H W : ℕ} (g : Fin B → Fin N → EReal) (hN : N = H * W)
    (F : Fin B → Fin H → Fin W → EReal)
    (hF : ∀ b h w (hl : h.val * W + w.val < N), F b h w = g b ⟨h.val * W + w.val, hl⟩) :
    ∑ b, ∑ h, ∑ w, F b h w = ∑ n, ∑ b, g b n := by
  rw [Finset.sum_comm (s := (Finset.univ : Finset (Fin N)))]
  exact Finset.sum_congr rfl fun b _ => Fin.sum_mul_add_congr (fun h w hl => hF b h w hl) hN

/-- The sum over pairs of images, rows and columns of the products of a cross entropy and a cosine is the sum over the pixels of
    the products of their sums over the images. -/
theorem sum_pairs {H W : ℕ} (C R : Fin B → Fin N → EReal) (hC : ∀ n b, ∃ x : ℝ, 0 ≤ x ∧ C b n = (x : EReal)) (hN : N = H * W)
    (F : Fin B → Fin B → Fin H → Fin W → EReal)
    (hF : ∀ i j h w (hl : h.val * W + w.val < N), F i j h w = C j ⟨h.val * W + w.val, hl⟩ * R i ⟨h.val * W + w.val, hl⟩) :
    ∑ i, ∑ j, ∑ h, ∑ w, F i j h w = ∑ n, (∑ b, C b n) * (∑ b, R b n) := by
  simp only [fun n => sum_mul_sum (fun b => C b n) (fun b => R b n) (hC n)]
  rw [Finset.sum_comm (s := (Finset.univ : Finset (Fin N)))]
  refine Finset.sum_congr rfl fun i _ => ?_
  rw [Finset.sum_comm (s := (Finset.univ : Finset (Fin N)))]
  exact Finset.sum_congr rfl fun j _ => Fin.sum_mul_add_congr (fun h w hl => hF i j h w hl) hN

end Cert.Pixel

end
-- ==== Proof.RefLoss.lean ====
/-
  The reference's result: the loss of the specification, of its arguments read pixel by pixel, when every logit is a real number.
-/
module

public import proofs.«01_k».proof.Proof.RefRel
public import proofs.«01_k».proof.Proof.RefEntropy
public import proofs.«01_k».proof.Proof.RefLossSum

@[expose] public section

set_option maxRecDepth 16384

noncomputable section

namespace Cert.RefValue

open Idealize.ShloMosaic Idealize.SL.Sem
open Cert.ReferenceIdeal Cert.ReferenceIdeal.Gen Cert.ReferenceIdeal.Read Cert.Pixel

variable (x y : Vec Ideal S8x4x224x224 .f32) (f g : Vec Ideal S8x64x224x224 .f32)

/-- A pixel's row and column from its number. -/
theorem rowOf_mk (h w : Fin 224) (hl : h.val * 224 + w.val < 50176) : rowOf ⟨h.val * 224 + w.val, hl⟩ = h :=
  Fin.ext (by show (h.val * 224 + w.val) / 224 = h.val; omega)
theorem colOf_mk (h w : Fin 224) (hl : h.val * 224 + w.val < 50176) : colOf ⟨h.val * 224 + w.val, hl⟩ = w :=
  Fin.ext (by show (h.val * 224 + w.val) % 224 = w.val; omega)

/-- The logits at a pixel's number are those at its row and column. -/
theorem logits_mk (b : Fin 8) (h w : Fin 224) (hl : h.val * 224 + w.val < 50176) :
    logits x b ⟨h.val * 224 + w.val, hl⟩ = at4 x b h w := by
  show at4 x b (rowOf _) (colOf _) = _
  rw [rowOf_mk, colOf_mk]

/-- The cosines by image, row and column. -/
theorem v66_at (hx : ∀ b n, Finite (logits x b n)) (b : Fin 8) (h w : Fin 224) (hl : h.val * 224 + w.val < 50176) :
    (val_main_v66 (F := Ideal) x f (ix4 b (0 : Fin 1) h w) : EReal) = rel (features f) (logits x) b ⟨h.val * 224 + w.val, hl⟩ := by
  have e : (val_main_v66 (F := Ideal) x f (ix4 b (0 : Fin 1) h w) : EReal)
      = val_main_v65 (F := Ideal) x f (ix2 b ⟨h.val * 224 + w.val, hl⟩) := by
    pointwise [val_main_v66]
  rw [e, v65_at x f b _ (hx b)]

/-- The sum of the cosines. -/
theorem v116_at (hx : ∀ b n, Finite (logits x b n)) (i : S_.Idx) :
    (val_main_v116 (F := Ideal) x f i : EReal) = ∑ n, relRow (features f) (logits x) n := by
  have e : (val_main_v116 (F := Ideal) x f i : EReal) = (val_main_cst_25 (F := Ideal) (Shape.Idx.first h_S_) : EReal)
      + ∑ j : S8x1x224x224.Idx, (val_main_v66 (F := Ideal) x f j : EReal) := val_main_v116_apply x f i
  rw [e, show (val_main_cst_25 (F := Ideal) (Shape.Idx.first h_S_) : EReal) = 0 from Ideal.ofBits_zero .f32, zero_add, sum_idx4]
  simp only [Fin.sum_univ_one]
  exact sum_pixels (fun b n => rel (features f) (logits x) b n) (by norm_num) _ fun b h w hl => v66_at x f hx b h w hl

/-- A sum over the pairs of images, the rows and the columns of the products of one head's cross entropies and one head's
    cosines. -/
theorem pairs (r : Fin 8 → Fin 50176 → Fin 4 → EReal) (hr : ∀ b n, Finite (r b n)) (P : Fin 8 → Fin 50176 → Fin 4)
    (R : Fin 8 → Fin 50176 → EReal) (F : Fin 8 → Fin 8 → Fin 224 → Fin 224 → EReal)
    (hF : ∀ i j h w (hl : h.val * 224 + w.val < 50176), F i j h w
      = ce (r j ⟨h.val * 224 + w.val, hl⟩) (BitVec.ofNat 32 (P j ⟨h.val * 224 + w.val, hl⟩).val) * R i ⟨h.val * 224 + w.val, hl⟩) :
    ∑ i, ∑ j, ∑ h, ∑ w, F i j h w
      = ∑ n, (∑ b, ce (r b n) (BitVec.ofNat 32 (P b n).val)) * (∑ b, R b n) :=
  sum_pairs (fun b n => ce (r b n) (BitVec.ofNat 32 (P b n).val)) R (fun n b => ce_real (hr b n) (P b n)) (by norm_num) F hF

/-- The auxiliary side's weighted sum: the auxiliary head's cross entropies by the main head's cosines. -/
theorem v115_at (hx : ∀ b n, Finite (logits x b n)) (hy : ∀ b n, Finite (logits y b n)) (i : S_.Idx) :
    (val_main_v115 (F := Ideal) x y f i : EReal)
      = ∑ n, ceRow (logits y) (logits x) (logits y) n * relRow (features f) (logits x) n := by
  have e : (val_main_v115 (F := Ideal) x y f i : EReal) = (val_main_cst_24 (F := Ideal) (Shape.Idx.first h_S_) : EReal)
      + ∑ j : S8x8x224x224.Idx, (val_main_v114 (F := Ideal) x y f j : EReal) := val_main_v115_apply x y f i
  have e114 : ∀ (a b : Fin 8) (h w : Fin 224), (val_main_v114 (F := Ideal) x y f (ix4 a b h w) : EReal)
      = (val_main_v103 (F := Ideal) x y (ix3 b h w) : EReal) * (val_main_v66 (F := Ideal) x f (ix4 a (0 : Fin 1) h w) : EReal) := by
    intro a b h w
    pointwise [val_main_v114, val_main_v113, val_main_v112, val_main_v111]
  rw [e, show (val_main_cst_24 (F := Ideal) (Shape.Idx.first h_S_) : EReal) = 0 from Ideal.ofBits_zero .f32, zero_add, sum_idx4]
  simp only [ceRow, relRow, pseudo_eq]
  refine pairs (logits y) hy (fun b n => pseudoF (logits x b n) (logits y b n)) (fun b n => rel (features f) (logits x) b n) _
    fun a b h w hl => ?_
  rw [e114, v66_at x f hx a h w hl, v103_at x y b h w (logits_mk x b h w hl ▸ hx b _) (logits_mk y b h w hl ▸ hy b _), pseudo_eq,
    logits_mk, logits_mk]

/-- The main side's weighted sum: the main head's cross entropies by the auxiliary head's cosines. -/
theorem v108_at (hx : ∀ b n, Finite (logits x b n)) (hy : ∀ b n, Finite (logits y b n)) (i : S_.Idx) :
    (val_main_v108 (F := Ideal) x y g i : EReal)
      = ∑ n, ceRow (logits x) (logits x) (logits y) n * relRow (features g) (logits y) n := by
  have e : (val_main_v108 (F := Ideal) x y g i : EReal) = (val_main_cst_22 (F := Ideal) (Shape.Idx.first h_S_) : EReal)
      + ∑ j : S8x8x224x224.Idx, (val_main_v107 (F := Ideal) x y g j : EReal) := val_main_v108_apply x y g i
  have e107 : ∀ (a b : Fin 8) (h w : Fin 224), (val_main_v107 (F := Ideal) x y g (ix4 a b h w) : EReal)
      = (val_main_v99 (F := Ideal) x y (ix3 b h w) : EReal) * (val_main_v93 (F := Ideal) y g (ix4 a (0 : Fin 1) h w) : EReal) := by
    intro a b h w
    pointwise [val_main_v107, val_main_v106, val_main_v105, val_main_v104]
  rw [e, show (val_main_cst_22 (F := Ideal) (Shape.Idx.first h_S_) : EReal) = 0 from Ideal.ofBits_zero .f32, zero_add, sum_idx4]
  simp only [ceRow, relRow, pseudo_eq]
  refine pairs (logits x) hx (fun b n => pseudoF (logits x b n) (logits y b n)) (fun b n => rel (features g) (logits y) b n) _
    fun a b h w hl => ?_
  rw [e107, show val_main_v93 (F := Ideal) y g = val_main_v66 (F := Ideal) y g from rfl, v66_at y g hy a h w hl,
    v99_at x y b h w (logits_mk x b h w hl ▸ hx b _) (logits_mk y b h w hl ▸ hy b _), pseudo_eq, logits_mk, logits_mk]

/-- The reference's result is the loss. -/
theorem result (hx : ∀ b n, Finite (logits x b n)) (hy : ∀ b n, Finite (logits y b n)) (i : S_.Idx) :
    (val_main_v118 (F := Ideal) x y f g i : EReal) = loss (logits x) (logits y) (features f) (features g) := by
  have e : (val_main_v118 (F := Ideal) x y f g i : EReal)
      = Ideal.div (val_main_v108 (F := Ideal) x y g i : EReal) (val_main_v109 (F := Ideal) y g i : EReal)
        + Ideal.div (val_main_v115 (F := Ideal) x y f i : EReal) (val_main_v116 (F := Ideal) x f i : EReal) := by
    rw [val_main_v118_apply, val_main_v110_apply, val_main_v117_apply]
    rfl
  rw [e, show val_main_v109 (F := Ideal) y g = val_main_v116 (F := Ideal) y g from rfl, v108_at x y g hx hy, v115_at x y f hx hy,
    v116_at x f hx, v116_at y g hy]
  rfl

end Cert.RefValue

end
-- ==== Proof.FiniteLogits.lean ====
/-
  What the precondition says: every logit of the two heads is a real number.
-/
module

public import proofs.«01_k».proof.Defs
public import proofs.«01_k».proof.Proof.RefConst
public import Idealize.ShloMosaic.Lib.ReduceAll

@[expose] public section

set_option maxRecDepth 16384

noncomputable section

namespace Cert.FiniteLogits

open Idealize.ShloMosaic
open Cert.Pre_finite_logits

/-- The shape relations that the precondition's operations take. -/
theorem facts : Cert.Pre_finite_logits.Facts where
  bcast_S_S8x4x224x224 := by decide
  reducesTo_S8x4x224x224_S_d0_1_2_3 := by decide
  h_S_ := by decide

variable [Cert.Pre_finite_logits.Facts]

/-- Two comparisons that both hold: the number lies strictly between minus and plus infinity. -/
theorem between (a : EReal)
    (h : IntOp.andi (FloatOps.cmpf (F := Ideal) (φ := .f32) .ogt a (Ideal.ofBits .f32 0xFF800000#32))
      (FloatOps.cmpf (F := Ideal) (φ := .f32) .olt a (Ideal.ofBits .f32 0x7F800000#32)) = 1#1) : a ≠ ⊥ ∧ a ≠ ⊤ := by
  rw [Cert.Pixel.ofBits_negInf, Cert.Pixel.ofBits_posInf] at h
  have e : ∀ p q : BitVec 1, IntOp.andi p q = 1#1 → p = 1#1 ∧ q = 1#1 := by decide
  obtain ⟨h1, h2⟩ := e _ _ h
  constructor
  · rintro rfl
    have h1' : BitVec.ofBool (decide ((⊥ : EReal) < ⊥)) = 1#1 := h1
    simp at h1'
  · rintro rfl
    have h2' : BitVec.ofBool (decide ((⊤ : EReal) < ⊤)) = 1#1 := h2
    simp at h2'

/-- The precondition decoded. -/
theorem finite (x y : Vec Ideal S8x4x224x224 .f32) (f g : Vec Ideal S8x64x224x224 .f32)
    (h : Cert.Pre_finite_logits.fn (F := Ideal) x y f g = fun _ => 1#1) (i : S8x4x224x224.Idx) :
    ((x i : EReal) ≠ ⊥ ∧ (x i : EReal) ≠ ⊤) ∧ ((y i : EReal) ≠ ⊥ ∧ (y i : EReal) ≠ ⊤) := by
  have e : ∀ p q : BitVec 1, IntOp.andi p q = 1#1 → p = 1#1 ∧ q = 1#1 := by decide
  have hsub : Subsingleton S_.Idx := ⟨fun a b => funext fun k => k.elim0⟩
  obtain ⟨h1, h2⟩ := e _ _ (congrFun h (Shape.Idx.first Facts.h_S_))
  exact ⟨between _ (Host.reduce_andi_all _ _ _ _ _ h1 i), between _ (Host.reduce_andi_all _ _ _ _ _ h2 i)⟩

end Cert.FiniteLogits

end
-- ==== Proof.lean ====
/-
  The proof of `Cert.Claim`: the three frames, the idealization without rewrites, and the equation of the kernel's loss and the
  reference's (`Proof/KernelResult.lean` and `Proof/RefLoss.lean`: both are `Cert.Pixel.loss` of the arguments).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.KernelRun
public import proofs.«01_k».proof.Proof.KernelResult
public import proofs.«01_k».proof.Proof.RefLoss
public import proofs.«01_k».proof.Proof.FiniteLogits
public import Idealize.ShloMosaic.Adequacy
public import Idealize.ShloMosaic.Init

@[expose] public section

set_option maxRecDepth 16384

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_logits.Facts := Cert.FiniteLogits.facts

/-- The reference runs, its arguments end unchanged, and every semaphore counter ends at zero. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference's run ends with the result stage of its arguments. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v118)
          = Cert.ReferenceIdeal.Read.val_main_v118 (F := Ideal)
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono
    (fun r h c => ⟨(h c).1.trans (Cert.ReferenceIdeal.Read.val_main_v118_eq (F := Ideal) (StableHlo.launchContents m c)), (h c).2⟩)
    (Cert.ReferenceIdeal.Value.run (F := Ideal) m ρ)

/-- The kernel and the reference end with the same loss when every logit is a real number. -/
theorem algebraic : Cert.algebraic_KernelIdeal_ReferenceIdeal_pre_finite_logits := by
  intro m ρ m' ρ' hpre hagree
  refine ⟨fun c => Cert.KernelIdeal.Gen.W9 m ρ c (Proc.devRef .tc Cert.KernelIdeal.main_v35), Cert.KernelValue.run (F := Ideal) m ρ, ?_⟩
  refine (θ_run Cert.ReferenceIdeal.defs _ _).mono (fun r h c => ⟨(h c).1.trans ?_, (h c).2⟩) (run_reference m' ρ')
  obtain ⟨h0, h1, h2, h3⟩ := hagree c
  rw [h0, h1, h2, h3]
  have hfin := Cert.FiniteLogits.finite _ _ _ _ (hpre c)
  refine funext fun i => ?_
  exact (Cert.RefValue.result _ _ _ _ (fun b n k => (hfin (ix4 b k (Cert.RefValue.rowOf n) (Cert.RefValue.colOf n))).1)
    (fun b n k => (hfin (ix4 b k (Cert.RefValue.rowOf n) (Cert.RefValue.colOf n))).2) i).trans
    (Cert.KernelValue.result m ρ c i).symm

/-- Every claim of the certificate. -/
theorem claim : Cert.Claim :=
  ⟨Cert.Kernel.Gen.facts, Cert.KernelIdeal.Gen.facts, Cert.ReferenceIdeal.Gen.facts, Cert.FiniteLogits.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    algebraic⟩

end Cert.Proof

end
